-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S512x8192 : Shape := ⟨2, ![512, 8192]⟩
abbrev S8192x4096 : Shape := ⟨2, ![8192, 4096]⟩
abbrev S512x4096 : Shape := ⟨2, ![512, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  dot_S512x8192_S8192x4096_S512x4096_1_0_0_1_n_n_wf : DotDims.WF S512x8192 S8192x4096 S512x4096 [1] [0] [0] [1] [] []

variable [Facts]

def dot_S512x8192_S8192x4096_S512x4096_1_0_0_1_n_n : DotDims S512x8192 S8192x4096 S512x4096 where
  lhsContracting := [1]
  rhsContracting := [0]
  lhsNonContracting := [0]
  rhsNonContracting := [1]
  lhsBatch := []
  rhsBatch := []
  wf := dot_S512x8192_S8192x4096_S512x4096_1_0_0_1_n_n_wf
def fn {F : FTy → Type} [FloatOps F] (main_arg0 : FVec F S512x8192 .f32) (main_arg1 : FVec F S8192x4096 .f32) : IVec S_ 1 :=
  let main_v0 : FVec F S512x4096 .f32 := (fun l r => Host.dotGeneral dot_S512x8192_S8192x4096_S512x4096_1_0_0_1_n_n none l r) main_arg0 main_arg1
  let main_v1 : FVec F S512x4096 .f32 := Host.absf main_v0
  let main_cst : FVec F S_ .f32 := constant S_ .f32 0x42700000#32
  let main_v2 : FVec F S512x4096 .f32 := broadcastInDim S512x4096 ![] bcast_S_S512x4096 main_cst
  let main_v3 : IVec S512x4096 1 := cmpf .ole main_v1 main_v2
  let main_c : IVec S_ 1 := constantI S_ 1 1#1
  let main_v4 : IVec S_ 1 := (fun x v => Host.reduce IntOp.andi x v reducesTo_S512x4096_S_d0_1 h_S_) main_v3 main_c
  main_v4
-- ==== Pre_within_clip_ReferenceIdeal.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S_ 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  let main_c : IVec S_ 1 := constantI S_ 1 1#1
  let main_v4 : IVec S_ 1 := (fun x v => Host.reduce IntOp.andi x v reducesTo_S8192x4096_S_d0_1 h_S_) main_v3 main_c
  main_v4
-- ==== Kernel.lean ====
abbrev S512x8192 : Shape := ⟨2, ![512, 8192]⟩
abbrev S8192x4096 : Shape := ⟨2, ![8192, 4096]⟩
abbrev S8192x256 : Shape := ⟨2, ![8192, 256]⟩
abbrev S3x8192x256 : Shape := ⟨3, ![3, 8192, 256]⟩
abbrev S16x512x256 : Shape := ⟨3, ![16, 512, 256]⟩
abbrev S3 : Shape := ⟨1, ![3]⟩
abbrev S16 : Shape := ⟨1, ![16]⟩
abbrev S1 : Shape := ⟨1, ![1]⟩
abbrev S_ : Shape := ⟨0, ![]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x8192, .f32⟩
  | .hbm, ⟨1, _⟩ => ⟨S8192x4096, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S3x8192x256, .f32⟩
  | .local _ .vmem, ⟨3, _⟩ => ⟨S16x512x256, .bf16⟩
  | .local _ .vmem, ⟨4, _⟩ => ⟨S16x512x256, .bf16⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c8_i32 : BitVec 32) : Fin 2 → Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.addi v2 c8_i32
  let c16_i32_0 : BitVec 32 := 16#32
  let c0_i32 : BitVec 32 := 0#32
  let v4 : BitVec 1 := Scalar.cmpi .eq c16_i32_0 c0_i32
  let c1_i32_1 : BitVec 32 := 1#32
  let v5 : BitVec 32 := Scalar.select v4 c1_i32_1 c16_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  ![0, v14.toNat]
def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let v38 : BitVec 32 := Scalar.addi v2 c1_i32_22
  let c16_i32_23 : BitVec 32 := 16#32
  let c0_i32_24 : BitVec 32 := 0#32
  let v39 : BitVec 1 := Scalar.cmpi .eq c16_i32_23 c0_i32_24
  let c1_i32_25 : BitVec 32 := 1#32
  let v40 : BitVec 32 := Scalar.select v39 c1_i32_25 c16_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c1_i32_30 : BitVec 32 := 1#32
  let v49 : BitVec 32 := Scalar.muli v48 c1_i32_30
  let v50 : BitVec 32 := Scalar.addi c0_i32_31 v49
  v50.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v51 : BitVec 32 := Scalar.addi v2 c2_i32
  let c16_i32_32 : BitVec 32 := 16#32
  let c0_i32_33 : BitVec 32 := 0#32
  let v52 : BitVec 1 := Scalar.cmpi .eq c16_i32_32 c0_i32_33
  let c1_i32_34 : BitVec 32 := 1#32
  let v53 : BitVec 32 := Scalar.select v52 c1_i32_34 c16_i32_32
  let v54 : BitVec 32 := Scalar.remsi v51 v53
  let c0_i32_36 : BitVec 32 := 0#32
  let v56 : BitVec 1 := Scalar.cmpi .slt v54 c0_i32_36
  let c0_i32_37 : BitVec 32 := 0#32
  let v57 : BitVec 1 := Scalar.cmpi .slt v53 c0_i32_37
  let v58 : BitVec 1 := Scalar.xori v56 v57
  let c0_i32_35 : BitVec 32 := 0#32
  let v55 : BitVec 1 := Scalar.cmpi .ne v54 c0_i32_35
  let v59 : BitVec 1 := Scalar.andi v58 v55
  let v60 : BitVec 32 := Scalar.addi v54 v53
  let v61 : BitVec 32 := Scalar.select v59 v60 v54
  let c1_i32_39 : BitVec 32 := 1#32
  let v62 : BitVec 32 := Scalar.muli v61 c1_i32_39
  let v63 : BitVec 32 := Scalar.addi c0_i32_40 v62
  v63.toNat
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c16_i32_41 : BitVec 32 := 16#32
  let c0_i32_42 : BitVec 32 := 0#32
  let v65 : BitVec 1 := Scalar.cmpi .eq c16_i32_41 c0_i32_42
  let c1_i32_43 : BitVec 32 := 1#32
  let v66 : BitVec 32 := Scalar.select v65 c1_i32_43 c16_i32_41
  let v67 : BitVec 32 := Scalar.remsi v64 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c1_i32_48 : BitVec 32 := 1#32
  let v75 : BitVec 32 := Scalar.muli v74 c1_i32_48
  let v76 : BitVec 32 := Scalar.addi c0_i32_49 v75
  v76.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v77 : BitVec 32 := Scalar.addi v2 c4_i32
  let c16_i32_50 : BitVec 32 := 16#32
  let c0_i32_51 : BitVec 32 := 0#32
  let v78 : BitVec 1 := Scalar.cmpi .eq c16_i32_50 c0_i32_51
  let c1_i32_52 : BitVec 32 := 1#32
  let v79 : BitVec 32 := Scalar.select v78 c1_i32_52 c16_i32_50
  let v80 : BitVec 32 := Scalar.remsi v77 v79
  let c0_i32_54 : BitVec 32 := 0#32
  let v82 : BitVec 1 := Scalar.cmpi .slt v80 c0_i32_54
  let c0_i32_55 : BitVec 32 := 0#32
  let v83 : BitVec 1 := Scalar.cmpi .slt v79 c0_i32_55
  let v84 : BitVec 1 := Scalar.xori v82 v83
  let c0_i32_53 : BitVec 32 := 0#32
  let v81 : BitVec 1 := Scalar.cmpi .ne v80 c0_i32_53
  let v85 : BitVec 1 := Scalar.andi v84 v81
  let v86 : BitVec 32 := Scalar.addi v80 v79
  let v87 : BitVec 32 := Scalar.select v85 v86 v80
  let c1_i32_57 : BitVec 32 := 1#32
  let v88 : BitVec 32 := Scalar.muli v87 c1_i32_57
  let v89 : BitVec 32 := Scalar.addi c0_i32_58 v88
  v89.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v90 : BitVec 32 := Scalar.addi v2 c5_i32
  let c16_i32_59 : BitVec 32 := 16#32
  let c0_i32_60 : BitVec 32 := 0#32
  let v91 : BitVec 1 := Scalar.cmpi .eq c16_i32_59 c0_i32_60
  let c1_i32_61 : BitVec 32 := 1#32
  let v92 : BitVec 32 := Scalar.select v91 c1_i32_61 c16_i32_59
  let v93 : BitVec 32 := Scalar.remsi v90 v92
  let c0_i32_63 : BitVec 32 := 0#32
  let v95 : BitVec 1 := Scalar.cmpi .slt v93 c0_i32_63
  let c0_i32_64 : BitVec 32 := 0#32
  let v96 : BitVec 1 := Scalar.cmpi .slt v92 c0_i32_64
  let v97 : BitVec 1 := Scalar.xori v95 v96
  let c0_i32_62 : BitVec 32 := 0#32
  let v94 : BitVec 1 := Scalar.cmpi .ne v93 c0_i32_62
  let v98 : BitVec 1 := Scalar.andi v97 v94
  let v99 : BitVec 32 := Scalar.addi v93 v92
  let v100 : BitVec 32 := Scalar.select v98 v99 v93
  let c1_i32_66 : BitVec 32 := 1#32
  let v101 : BitVec 32 := Scalar.muli v100 c1_i32_66
  let v102 : BitVec 32 := Scalar.addi c0_i32_67 v101
  v102.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v103 : BitVec 32 := Scalar.addi v2 c6_i32
  let c16_i32_68 : BitVec 32 := 16#32
  let c0_i32_69 : BitVec 32 := 0#32
  let v104 : BitVec 1 := Scalar.cmpi .eq c16_i32_68 c0_i32_69
  let c1_i32_70 : BitVec 32 := 1#32
  let v105 : BitVec 32 := Scalar.select v104 c1_i32_70 c16_i32_68
  let v106 : BitVec 32 := Scalar.remsi v103 v105
  let c0_i32_72 : BitVec 32 := 0#32
  let v108 : BitVec 1 := Scalar.cmpi .slt v106 c0_i32_72
  let c0_i32_73 : BitVec 32 := 0#32
  let v109 : BitVec 1 := Scalar.cmpi .slt v105 c0_i32_73
  let v110 : BitVec 1 := Scalar.xori v108 v109
  let c0_i32_71 : BitVec 32 := 0#32
  let v107 : BitVec 1 := Scalar.cmpi .ne v106 c0_i32_71
  let v111 : BitVec 1 := Scalar.andi v110 v107
  let v112 : BitVec 32 := Scalar.addi v106 v105
  let v113 : BitVec 32 := Scalar.select v111 v112 v106
  let c1_i32_75 : BitVec 32 := 1#32
  let v114 : BitVec 32 := Scalar.muli v113 c1_i32_75
  let v115 : BitVec 32 := Scalar.addi c0_i32_76 v114
  v115.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_77 : BitVec 32 := 7#32
  let v116 : BitVec 32 := Scalar.addi v2 c7_i32_77
  let c16_i32_78 : BitVec 32 := 16#32
  let c0_i32_79 : BitVec 32 := 0#32
  let v117 : BitVec 1 := Scalar.cmpi .eq c16_i32_78 c0_i32_79
  let c1_i32_80 : BitVec 32 := 1#32
  let v118 : BitVec 32 := Scalar.select v117 c1_i32_80 c16_i32_78
  let v119 : BitVec 32 := Scalar.remsi v116 v118
  let c0_i32_82 : BitVec 32 := 0#32
  let v121 : BitVec 1 := Scalar.cmpi .slt v119 c0_i32_82
  let c0_i32_83 : BitVec 32 := 0#32
  let v122 : BitVec 1 := Scalar.cmpi .slt v118 c0_i32_83
  let v123 : BitVec 1 := Scalar.xori v121 v122
  let c0_i32_81 : BitVec 32 := 0#32
  let v120 : BitVec 1 := Scalar.cmpi .ne v119 c0_i32_81
  let v124 : BitVec 1 := Scalar.andi v123 v120
  let v125 : BitVec 32 := Scalar.addi v119 v118
  let v126 : BitVec 32 := Scalar.select v124 v125 v119
  let c1_i32_85 : BitVec 32 := 1#32
  let v127 : BitVec 32 := Scalar.muli v126 c1_i32_85
  let v128 : BitVec 32 := Scalar.addi c0_i32_86 v127
  v128.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_87 : BitVec 32 := 8#32
  let v129 : BitVec 32 := Scalar.addi v2 c8_i32_87
  let c16_i32_88 : BitVec 32 := 16#32
  let c0_i32_89 : BitVec 32 := 0#32
  let v130 : BitVec 1 := Scalar.cmpi .eq c16_i32_88 c0_i32_89
  let c1_i32_90 : BitVec 32 := 1#32
  let v131 : BitVec 32 := Scalar.select v130 c1_i32_90 c16_i32_88
  let v132 : BitVec 32 := Scalar.remsi v129 v131
  let c0_i32_92 : BitVec 32 := 0#32
  let v134 : BitVec 1 := Scalar.cmpi .slt v132 c0_i32_92
  let c0_i32_93 : BitVec 32 := 0#32
  let v135 : BitVec 1 := Scalar.cmpi .slt v131 c0_i32_93
  let v136 : BitVec 1 := Scalar.xori v134 v135
  let c0_i32_91 : BitVec 32 := 0#32
  let v133 : BitVec 1 := Scalar.cmpi .ne v132 c0_i32_91
  let v137 : BitVec 1 := Scalar.andi v136 v133
  let v138 : BitVec 32 := Scalar.addi v132 v131
  let v139 : BitVec 32 := Scalar.select v137 v138 v132
  let c1_i32_95 : BitVec 32 := 1#32
  let v140 : BitVec 32 := Scalar.muli v139 c1_i32_95
  let v141 : BitVec 32 := Scalar.addi c0_i32_96 v140
  v141.toNat
def k0_dev9 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v142 : BitVec 32 := Scalar.addi v2 c9_i32
  let c16_i32_97 : BitVec 32 := 16#32
  let c0_i32_98 : BitVec 32 := 0#32
  let v143 : BitVec 1 := Scalar.cmpi .eq c16_i32_97 c0_i32_98
  let c1_i32_99 : BitVec 32 := 1#32
  let v144 : BitVec 32 := Scalar.select v143 c1_i32_99 c16_i32_97
  let v145 : BitVec 32 := Scalar.remsi v142 v144
  let c0_i32_101 : BitVec 32 := 0#32
  let v147 : BitVec 1 := Scalar.cmpi .slt v145 c0_i32_101
  let c0_i32_102 : BitVec 32 := 0#32
  let v148 : BitVec 1 := Scalar.cmpi .slt v144 c0_i32_102
  let v149 : BitVec 1 := Scalar.xori v147 v148
  let c0_i32_100 : BitVec 32 := 0#32
  let v146 : BitVec 1 := Scalar.cmpi .ne v145 c0_i32_100
  let v150 : BitVec 1 := Scalar.andi v149 v146
  let v151 : BitVec 32 := Scalar.addi v145 v144
  let v152 : BitVec 32 := Scalar.select v150 v151 v145
  let c1_i32_104 : BitVec 32 := 1#32
  let v153 : BitVec 32 := Scalar.muli v152 c1_i32_104
  let v154 : BitVec 32 := Scalar.addi c0_i32_105 v153
  v154.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v155 : BitVec 32 := Scalar.addi v2 c10_i32
  let c16_i32_106 : BitVec 32 := 16#32
  let c0_i32_107 : BitVec 32 := 0#32
  let v156 : BitVec 1 := Scalar.cmpi .eq c16_i32_106 c0_i32_107
  let c1_i32_108 : BitVec 32 := 1#32
  let v157 : BitVec 32 := Scalar.select v156 c1_i32_108 c16_i32_106
  let v158 : BitVec 32 := Scalar.remsi v155 v157
  let c0_i32_110 : BitVec 32 := 0#32
  let v160 : BitVec 1 := Scalar.cmpi .slt v158 c0_i32_110
  let c0_i32_111 : BitVec 32 := 0#32
  let v161 : BitVec 1 := Scalar.cmpi .slt v157 c0_i32_111
  let v162 : BitVec 1 := Scalar.xori v160 v161
  let c0_i32_109 : BitVec 32 := 0#32
  let v159 : BitVec 1 := Scalar.cmpi .ne v158 c0_i32_109
  let v163 : BitVec 1 := Scalar.andi v162 v159
  let v164 : BitVec 32 := Scalar.addi v158 v157
  let v165 : BitVec 32 := Scalar.select v163 v164 v158
  let c1_i32_113 : BitVec 32 := 1#32
  let v166 : BitVec 32 := Scalar.muli v165 c1_i32_113
  let v167 : BitVec 32 := Scalar.addi c0_i32_114 v166
  v167.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v168 : BitVec 32 := Scalar.addi v2 c11_i32
  let c16_i32_115 : BitVec 32 := 16#32
  let c0_i32_116 : BitVec 32 := 0#32
  let v169 : BitVec 1 := Scalar.cmpi .eq c16_i32_115 c0_i32_116
  let c1_i32_117 : BitVec 32 := 1#32
  let v170 : BitVec 32 := Scalar.select v169 c1_i32_117 c16_i32_115
  let v171 : BitVec 32 := Scalar.remsi v168 v170
  let c0_i32_119 : BitVec 32 := 0#32
  let v173 : BitVec 1 := Scalar.cmpi .slt v171 c0_i32_119
  let c0_i32_120 : BitVec 32 := 0#32
  let v174 : BitVec 1 := Scalar.cmpi .slt v170 c0_i32_120
  let v175 : BitVec 1 := Scalar.xori v173 v174
  let c0_i32_118 : BitVec 32 := 0#32
  let v172 : BitVec 1 := Scalar.cmpi .ne v171 c0_i32_118
  let v176 : BitVec 1 := Scalar.andi v175 v172
  let v177 : BitVec 32 := Scalar.addi v171 v170
  let v178 : BitVec 32 := Scalar.select v176 v177 v171
  let c1_i32_122 : BitVec 32 := 1#32
  let v179 : BitVec 32 := Scalar.muli v178 c1_i32_122
  let v180 : BitVec 32 := Scalar.addi c0_i32_123 v179
  v180.toNat
def k0_dev12 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v181 : BitVec 32 := Scalar.addi v2 c12_i32
  let c16_i32_124 : BitVec 32 := 16#32
  let c0_i32_125 : BitVec 32 := 0#32
  let v182 : BitVec 1 := Scalar.cmpi .eq c16_i32_124 c0_i32_125
  let c1_i32_126 : BitVec 32 := 1#32
  let v183 : BitVec 32 := Scalar.select v182 c1_i32_126 c16_i32_124
  let v184 : BitVec 32 := Scalar.remsi v181 v183
  let c0_i32_128 : BitVec 32 := 0#32
  let v186 : BitVec 1 := Scalar.cmpi .slt v184 c0_i32_128
  let c0_i32_129 : BitVec 32 := 0#32
  let v187 : BitVec 1 := Scalar.cmpi .slt v183 c0_i32_129
  let v188 : BitVec 1 := Scalar.xori v186 v187
  let c0_i32_127 : BitVec 32 := 0#32
  let v185 : BitVec 1 := Scalar.cmpi .ne v184 c0_i32_127
  let v189 : BitVec 1 := Scalar.andi v188 v185
  let v190 : BitVec 32 := Scalar.addi v184 v183
  let v191 : BitVec 32 := Scalar.select v189 v190 v184
  let c1_i32_131 : BitVec 32 := 1#32
  let v192 : BitVec 32 := Scalar.muli v191 c1_i32_131
  let v193 : BitVec 32 := Scalar.addi c0_i32_132 v192
  v193.toNat
def k0_dev13 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v194 : BitVec 32 := Scalar.addi v2 c13_i32
  let c16_i32_133 : BitVec 32 := 16#32
  let c0_i32_134 : BitVec 32 := 0#32
  let v195 : BitVec 1 := Scalar.cmpi .eq c16_i32_133 c0_i32_134
  let c1_i32_135 : BitVec 32 := 1#32
  let v196 : BitVec 32 := Scalar.select v195 c1_i32_135 c16_i32_133
  let v197 : BitVec 32 := Scalar.remsi v194 v196
  let c0_i32_137 : BitVec 32 := 0#32
  let v199 : BitVec 1 := Scalar.cmpi .slt v197 c0_i32_137
  let c0_i32_138 : BitVec 32 := 0#32
  let v200 : BitVec 1 := Scalar.cmpi .slt v196 c0_i32_138
  let v201 : BitVec 1 := Scalar.xori v199 v200
  let c0_i32_136 : BitVec 32 := 0#32
  let v198 : BitVec 1 := Scalar.cmpi .ne v197 c0_i32_136
  let v202 : BitVec 1 := Scalar.andi v201 v198
  let v203 : BitVec 32 := Scalar.addi v197 v196
  let v204 : BitVec 32 := Scalar.select v202 v203 v197
  let c1_i32_140 : BitVec 32 := 1#32
  let v205 : BitVec 32 := Scalar.muli v204 c1_i32_140
  let v206 : BitVec 32 := Scalar.addi c0_i32_141 v205
  v206.toNat
def k0_dev14 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v207 : BitVec 32 := Scalar.addi v2 c14_i32
  let c16_i32_142 : BitVec 32 := 16#32
  let c0_i32_143 : BitVec 32 := 0#32
  let v208 : BitVec 1 := Scalar.cmpi .eq c16_i32_142 c0_i32_143
  let c1_i32_144 : BitVec 32 := 1#32
  let v209 : BitVec 32 := Scalar.select v208 c1_i32_144 c16_i32_142
  let v210 : BitVec 32 := Scalar.remsi v207 v209
  let c0_i32_146 : BitVec 32 := 0#32
  let v212 : BitVec 1 := Scalar.cmpi .slt v210 c0_i32_146
  let c0_i32_147 : BitVec 32 := 0#32
  let v213 : BitVec 1 := Scalar.cmpi .slt v209 c0_i32_147
  let v214 : BitVec 1 := Scalar.xori v212 v213
  let c0_i32_145 : BitVec 32 := 0#32
  let v211 : BitVec 1 := Scalar.cmpi .ne v210 c0_i32_145
  let v215 : BitVec 1 := Scalar.andi v214 v211
  let v216 : BitVec 32 := Scalar.addi v210 v209
  let v217 : BitVec 32 := Scalar.select v215 v216 v210
  let c1_i32_149 : BitVec 32 := 1#32
  let v218 : BitVec 32 := Scalar.muli v217 c1_i32_149
  let v219 : BitVec 32 := Scalar.addi c0_i32_150 v218
  v219.toNat
def k0_dev15 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v220 : BitVec 32 := Scalar.addi v2 c15_i32
  let c16_i32_151 : BitVec 32 := 16#32
  let c0_i32_152 : BitVec 32 := 0#32
  let v221 : BitVec 1 := Scalar.cmpi .eq c16_i32_151 c0_i32_152
  let c1_i32_153 : BitVec 32 := 1#32
  let v222 : BitVec 32 := Scalar.select v221 c1_i32_153 c16_i32_151
  let v223 : BitVec 32 := Scalar.remsi v220 v222
  let c0_i32_155 : BitVec 32 := 0#32
  let v225 : BitVec 1 := Scalar.cmpi .slt v223 c0_i32_155
  let c0_i32_156 : BitVec 32 := 0#32
  let v226 : BitVec 1 := Scalar.cmpi .slt v222 c0_i32_156
  let v227 : BitVec 1 := Scalar.xori v225 v226
  let c0_i32_154 : BitVec 32 := 0#32
  let v224 : BitVec 1 := Scalar.cmpi .ne v223 c0_i32_154
  let v228 : BitVec 1 := Scalar.andi v227 v224
  let v229 : BitVec 32 := Scalar.addi v223 v222
  let v230 : BitVec 32 := Scalar.select v228 v229 v223
  let c1_i32_158 : BitVec 32 := 1#32
  let v231 : BitVec 32 := Scalar.muli v230 c1_i32_158
  let v232 : BitVec 32 := Scalar.addi c0_i32_159 v231
  v232.toNat
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_197 : BitVec 32 := 0#32
  let c0_i32_198 : BitVec 32 := 0#32
  ![v2.toNat, 0, 0]
def k0_dev16 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v266 : BitVec 32 := Scalar.addi v2 c8_i32_186
  let c16_i32_187 : BitVec 32 := 16#32
  let c0_i32_188 : BitVec 32 := 0#32
  let v267 : BitVec 1 := Scalar.cmpi .eq c16_i32_187 c0_i32_188
  let c1_i32_189 : BitVec 32 := 1#32
  let v268 : BitVec 32 := Scalar.select v267 c1_i32_189 c16_i32_187
  let v269 : BitVec 32 := Scalar.remsi v266 v268
  let c0_i32_191 : BitVec 32 := 0#32
  let v271 : BitVec 1 := Scalar.cmpi .slt v269 c0_i32_191
  let c0_i32_192 : BitVec 32 := 0#32
  let v272 : BitVec 1 := Scalar.cmpi .slt v268 c0_i32_192
  let v273 : BitVec 1 := Scalar.xori v271 v272
  let c0_i32_190 : BitVec 32 := 0#32
  let v270 : BitVec 1 := Scalar.cmpi .ne v269 c0_i32_190
  let v274 : BitVec 1 := Scalar.andi v273 v270
  let v275 : BitVec 32 := Scalar.addi v269 v268
  let v276 : BitVec 32 := Scalar.select v274 v275 v269
  let c1_i32_195 : BitVec 32 := 1#32
  let v277 : BitVec 32 := Scalar.muli v276 c1_i32_195
  let v278 : BitVec 32 := Scalar.addi c0_i32_196 v277
  v278.toNat
def k0_dev17 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_227 : BitVec 32 := 7#32
  let v320 : BitVec 32 := Scalar.addi v2 c7_i32_227
  let c16_i32_228 : BitVec 32 := 16#32
  let c0_i32_229 : BitVec 32 := 0#32
  let v321 : BitVec 1 := Scalar.cmpi .eq c16_i32_228 c0_i32_229
  let c1_i32_230 : BitVec 32 := 1#32
  let v322 : BitVec 32 := Scalar.select v321 c1_i32_230 c16_i32_228
  let v323 : BitVec 32 := Scalar.remsi v320 v322
  let c0_i32_232 : BitVec 32 := 0#32
  let v325 : BitVec 1 := Scalar.cmpi .slt v323 c0_i32_232
  let c0_i32_233 : BitVec 32 := 0#32
  let v326 : BitVec 1 := Scalar.cmpi .slt v322 c0_i32_233
  let v327 : BitVec 1 := Scalar.xori v325 v326
  let c0_i32_231 : BitVec 32 := 0#32
  let v324 : BitVec 1 := Scalar.cmpi .ne v323 c0_i32_231
  let v328 : BitVec 1 := Scalar.andi v327 v324
  let v329 : BitVec 32 := Scalar.addi v323 v322
  let v330 : BitVec 32 := Scalar.select v328 v329 v323
  let c1_i32_236 : BitVec 32 := 1#32
  let v331 : BitVec 32 := Scalar.muli v330 c1_i32_236
  let v332 : BitVec 32 := Scalar.addi c0_i32_237 v331
  v332.toNat
def k0_dev18 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_268 : BitVec 32 := 9#32
  let v374 : BitVec 32 := Scalar.addi v2 c9_i32_268
  let c16_i32_269 : BitVec 32 := 16#32
  let c0_i32_270 : BitVec 32 := 0#32
  let v375 : BitVec 1 := Scalar.cmpi .eq c16_i32_269 c0_i32_270
  let c1_i32_271 : BitVec 32 := 1#32
  let v376 : BitVec 32 := Scalar.select v375 c1_i32_271 c16_i32_269
  let v377 : BitVec 32 := Scalar.remsi v374 v376
  let c0_i32_273 : BitVec 32 := 0#32
  let v379 : BitVec 1 := Scalar.cmpi .slt v377 c0_i32_273
  let c0_i32_274 : BitVec 32 := 0#32
  let v380 : BitVec 1 := Scalar.cmpi .slt v376 c0_i32_274
  let v381 : BitVec 1 := Scalar.xori v379 v380
  let c0_i32_272 : BitVec 32 := 0#32
  let v378 : BitVec 1 := Scalar.cmpi .ne v377 c0_i32_272
  let v382 : BitVec 1 := Scalar.andi v381 v378
  let v383 : BitVec 32 := Scalar.addi v377 v376
  let v384 : BitVec 32 := Scalar.select v382 v383 v377
  let c1_i32_277 : BitVec 32 := 1#32
  let v385 : BitVec 32 := Scalar.muli v384 c1_i32_277
  let v386 : BitVec 32 := Scalar.addi c0_i32_278 v385
  v386.toNat
def k0_dev19 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_309 : BitVec 32 := 3#32
  let v428 : BitVec 32 := Scalar.addi v2 c3_i32_309
  let c16_i32_310 : BitVec 32 := 16#32
  let c0_i32_311 : BitVec 32 := 0#32
  let v429 : BitVec 1 := Scalar.cmpi .eq c16_i32_310 c0_i32_311
  let c1_i32_312 : BitVec 32 := 1#32
  let v430 : BitVec 32 := Scalar.select v429 c1_i32_312 c16_i32_310
  let v431 : BitVec 32 := Scalar.remsi v428 v430
  let c0_i32_314 : BitVec 32 := 0#32
  let v433 : BitVec 1 := Scalar.cmpi .slt v431 c0_i32_314
  let c0_i32_315 : BitVec 32 := 0#32
  let v434 : BitVec 1 := Scalar.cmpi .slt v430 c0_i32_315
  let v435 : BitVec 1 := Scalar.xori v433 v434
  let c0_i32_313 : BitVec 32 := 0#32
  let v432 : BitVec 1 := Scalar.cmpi .ne v431 c0_i32_313
  let v436 : BitVec 1 := Scalar.andi v435 v432
  let v437 : BitVec 32 := Scalar.addi v431 v430
  let v438 : BitVec 32 := Scalar.select v436 v437 v431
  let c1_i32_318 : BitVec 32 := 1#32
  let v439 : BitVec 32 := Scalar.muli v438 c1_i32_318
  let v440 : BitVec 32 := Scalar.addi c0_i32_319 v439
  v440.toNat
def k0_dev20 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_350 : BitVec 32 := 6#32
  let v482 : BitVec 32 := Scalar.addi v2 c6_i32_350
  let c16_i32_351 : BitVec 32 := 16#32
  let c0_i32_352 : BitVec 32 := 0#32
  let v483 : BitVec 1 := Scalar.cmpi .eq c16_i32_351 c0_i32_352
  let c1_i32_353 : BitVec 32 := 1#32
  let v484 : BitVec 32 := Scalar.select v483 c1_i32_353 c16_i32_351
  let v485 : BitVec 32 := Scalar.remsi v482 v484
  let c0_i32_355 : BitVec 32 := 0#32
  let v487 : BitVec 1 := Scalar.cmpi .slt v485 c0_i32_355
  let c0_i32_356 : BitVec 32 := 0#32
  let v488 : BitVec 1 := Scalar.cmpi .slt v484 c0_i32_356
  let v489 : BitVec 1 := Scalar.xori v487 v488
  let c0_i32_354 : BitVec 32 := 0#32
  let v486 : BitVec 1 := Scalar.cmpi .ne v485 c0_i32_354
  let v490 : BitVec 1 := Scalar.andi v489 v486
  let v491 : BitVec 32 := Scalar.addi v485 v484
  let v492 : BitVec 32 := Scalar.select v490 v491 v485
  let c1_i32_359 : BitVec 32 := 1#32
  let v493 : BitVec 32 := Scalar.muli v492 c1_i32_359
  let v494 : BitVec 32 := Scalar.addi c0_i32_360 v493
  v494.toNat
def k0_dev21 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_391 : BitVec 32 := 10#32
  let v536 : BitVec 32 := Scalar.addi v2 c10_i32_391
  let c16_i32_392 : BitVec 32 := 16#32
  let c0_i32_393 : BitVec 32 := 0#32
  let v537 : BitVec 1 := Scalar.cmpi .eq c16_i32_392 c0_i32_393
  let c1_i32_394 : BitVec 32 := 1#32
  let v538 : BitVec 32 := Scalar.select v537 c1_i32_394 c16_i32_392
  let v539 : BitVec 32 := Scalar.remsi v536 v538
  let c0_i32_396 : BitVec 32 := 0#32
  let v541 : BitVec 1 := Scalar.cmpi .slt v539 c0_i32_396
  let c0_i32_397 : BitVec 32 := 0#32
  let v542 : BitVec 1 := Scalar.cmpi .slt v538 c0_i32_397
  let v543 : BitVec 1 := Scalar.xori v541 v542
  let c0_i32_395 : BitVec 32 := 0#32
  let v540 : BitVec 1 := Scalar.cmpi .ne v539 c0_i32_395
  let v544 : BitVec 1 := Scalar.andi v543 v540
  let v545 : BitVec 32 := Scalar.addi v539 v538
  let v546 : BitVec 32 := Scalar.select v544 v545 v539
  let c1_i32_400 : BitVec 32 := 1#32
  let v547 : BitVec 32 := Scalar.muli v546 c1_i32_400
  let v548 : BitVec 32 := Scalar.addi c0_i32_401 v547
  v548.toNat
def k0_dev22 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_432 : BitVec 32 := 5#32
  let v590 : BitVec 32 := Scalar.addi v2 c5_i32_432
  let c16_i32_433 : BitVec 32 := 16#32
  let c0_i32_434 : BitVec 32 := 0#32
  let v591 : BitVec 1 := Scalar.cmpi .eq c16_i32_433 c0_i32_434
  let c1_i32_435 : BitVec 32 := 1#32
  let v592 : BitVec 32 := Scalar.select v591 c1_i32_435 c16_i32_433
  let v593 : BitVec 32 := Scalar.remsi v590 v592
  let c0_i32_437 : BitVec 32 := 0#32
  let v595 : BitVec 1 := Scalar.cmpi .slt v593 c0_i32_437
  let c0_i32_438 : BitVec 32 := 0#32
  let v596 : BitVec 1 := Scalar.cmpi .slt v592 c0_i32_438
  let v597 : BitVec 1 := Scalar.xori v595 v596
  let c0_i32_436 : BitVec 32 := 0#32
  let v594 : BitVec 1 := Scalar.cmpi .ne v593 c0_i32_436
  let v598 : BitVec 1 := Scalar.andi v597 v594
  let v599 : BitVec 32 := Scalar.addi v593 v592
  let v600 : BitVec 32 := Scalar.select v598 v599 v593
  let c1_i32_441 : BitVec 32 := 1#32
  let v601 : BitVec 32 := Scalar.muli v600 c1_i32_441
  let v602 : BitVec 32 := Scalar.addi c0_i32_442 v601
  v602.toNat
def k0_dev23 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_473 : BitVec 32 := 13#32
  let v644 : BitVec 32 := Scalar.addi v2 c13_i32_473
  let c16_i32_474 : BitVec 32 := 16#32
  let c0_i32_475 : BitVec 32 := 0#32
  let v645 : BitVec 1 := Scalar.cmpi .eq c16_i32_474 c0_i32_475
  let c1_i32_476 : BitVec 32 := 1#32
  let v646 : BitVec 32 := Scalar.select v645 c1_i32_476 c16_i32_474
  let v647 : BitVec 32 := Scalar.remsi v644 v646
  let c0_i32_478 : BitVec 32 := 0#32
  let v649 : BitVec 1 := Scalar.cmpi .slt v647 c0_i32_478
  let c0_i32_479 : BitVec 32 := 0#32
  let v650 : BitVec 1 := Scalar.cmpi .slt v646 c0_i32_479
  let v651 : BitVec 1 := Scalar.xori v649 v650
  let c0_i32_477 : BitVec 32 := 0#32
  let v648 : BitVec 1 := Scalar.cmpi .ne v647 c0_i32_477
  let v652 : BitVec 1 := Scalar.andi v651 v648
  let v653 : BitVec 32 := Scalar.addi v647 v646
  let v654 : BitVec 32 := Scalar.select v652 v653 v647
  let c1_i32_482 : BitVec 32 := 1#32
  let v655 : BitVec 32 := Scalar.muli v654 c1_i32_482
  let v656 : BitVec 32 := Scalar.addi c0_i32_483 v655
  v656.toNat
def k0_dev24 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_514 : BitVec 32 := 11#32
  let v698 : BitVec 32 := Scalar.addi v2 c11_i32_514
  let c16_i32_515 : BitVec 32 := 16#32
  let c0_i32_516 : BitVec 32 := 0#32
  let v699 : BitVec 1 := Scalar.cmpi .eq c16_i32_515 c0_i32_516
  let c1_i32_517 : BitVec 32 := 1#32
  let v700 : BitVec 32 := Scalar.select v699 c1_i32_517 c16_i32_515
  let v701 : BitVec 32 := Scalar.remsi v698 v700
  let c0_i32_519 : BitVec 32 := 0#32
  let v703 : BitVec 1 := Scalar.cmpi .slt v701 c0_i32_519
  let c0_i32_520 : BitVec 32 := 0#32
  let v704 : BitVec 1 := Scalar.cmpi .slt v700 c0_i32_520
  let v705 : BitVec 1 := Scalar.xori v703 v704
  let c0_i32_518 : BitVec 32 := 0#32
  let v702 : BitVec 1 := Scalar.cmpi .ne v701 c0_i32_518
  let v706 : BitVec 1 := Scalar.andi v705 v702
  let v707 : BitVec 32 := Scalar.addi v701 v700
  let v708 : BitVec 32 := Scalar.select v706 v707 v701
  let c1_i32_523 : BitVec 32 := 1#32
  let v709 : BitVec 32 := Scalar.muli v708 c1_i32_523
  let v710 : BitVec 32 := Scalar.addi c0_i32_524 v709
  v710.toNat
def k0_dev25 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_555 : BitVec 32 := 4#32
  let v752 : BitVec 32 := Scalar.addi v2 c4_i32_555
  let c16_i32_556 : BitVec 32 := 16#32
  let c0_i32_557 : BitVec 32 := 0#32
  let v753 : BitVec 1 := Scalar.cmpi .eq c16_i32_556 c0_i32_557
  let c1_i32_558 : BitVec 32 := 1#32
  let v754 : BitVec 32 := Scalar.select v753 c1_i32_558 c16_i32_556
  let v755 : BitVec 32 := Scalar.remsi v752 v754
  let c0_i32_560 : BitVec 32 := 0#32
  let v757 : BitVec 1 := Scalar.cmpi .slt v755 c0_i32_560
  let c0_i32_561 : BitVec 32 := 0#32
  let v758 : BitVec 1 := Scalar.cmpi .slt v754 c0_i32_561
  let v759 : BitVec 1 := Scalar.xori v757 v758
  let c0_i32_559 : BitVec 32 := 0#32
  let v756 : BitVec 1 := Scalar.cmpi .ne v755 c0_i32_559
  let v760 : BitVec 1 := Scalar.andi v759 v756
  let v761 : BitVec 32 := Scalar.addi v755 v754
  let v762 : BitVec 32 := Scalar.select v760 v761 v755
  let c1_i32_564 : BitVec 32 := 1#32
  let v763 : BitVec 32 := Scalar.muli v762 c1_i32_564
  let v764 : BitVec 32 := Scalar.addi c0_i32_565 v763
  v764.toNat
def k0_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_596 : BitVec 32 := 12#32
  let v806 : BitVec 32 := Scalar.addi v2 c12_i32_596
  let c16_i32_597 : BitVec 32 := 16#32
  let c0_i32_598 : BitVec 32 := 0#32
  let v807 : BitVec 1 := Scalar.cmpi .eq c16_i32_597 c0_i32_598
  let c1_i32_599 : BitVec 32 := 1#32
  let v808 : BitVec 32 := Scalar.select v807 c1_i32_599 c16_i32_597
  let v809 : BitVec 32 := Scalar.remsi v806 v808
  let c0_i32_601 : BitVec 32 := 0#32
  let v811 : BitVec 1 := Scalar.cmpi .slt v809 c0_i32_601
  let c0_i32_602 : BitVec 32 := 0#32
  let v812 : BitVec 1 := Scalar.cmpi .slt v808 c0_i32_602
  let v813 : BitVec 1 := Scalar.xori v811 v812
  let c0_i32_600 : BitVec 32 := 0#32
  let v810 : BitVec 1 := Scalar.cmpi .ne v809 c0_i32_600
  let v814 : BitVec 1 := Scalar.andi v813 v810
  let v815 : BitVec 32 := Scalar.addi v809 v808
  let v816 : BitVec 32 := Scalar.select v814 v815 v809
  let c1_i32_605 : BitVec 32 := 1#32
  let v817 : BitVec 32 := Scalar.muli v816 c1_i32_605
  let v818 : BitVec 32 := Scalar.addi c0_i32_606 v817
  v818.toNat
def k0_dev27 (d0 : Dev nD) : Nat :=
  let c0_i32_647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_637 : BitVec 32 := 2#32
  let v860 : BitVec 32 := Scalar.addi v2 c2_i32_637
  let c16_i32_638 : BitVec 32 := 16#32
  let c0_i32_639 : BitVec 32 := 0#32
  let v861 : BitVec 1 := Scalar.cmpi .eq c16_i32_638 c0_i32_639
  let c1_i32_640 : BitVec 32 := 1#32
  let v862 : BitVec 32 := Scalar.select v861 c1_i32_640 c16_i32_638
  let v863 : BitVec 32 := Scalar.remsi v860 v862
  let c0_i32_642 : BitVec 32 := 0#32
  let v865 : BitVec 1 := Scalar.cmpi .slt v863 c0_i32_642
  let c0_i32_643 : BitVec 32 := 0#32
  let v866 : BitVec 1 := Scalar.cmpi .slt v862 c0_i32_643
  let v867 : BitVec 1 := Scalar.xori v865 v866
  let c0_i32_641 : BitVec 32 := 0#32
  let v864 : BitVec 1 := Scalar.cmpi .ne v863 c0_i32_641
  let v868 : BitVec 1 := Scalar.andi v867 v864
  let v869 : BitVec 32 := Scalar.addi v863 v862
  let v870 : BitVec 32 := Scalar.select v868 v869 v863
  let c1_i32_646 : BitVec 32 := 1#32
  let v871 : BitVec 32 := Scalar.muli v870 c1_i32_646
  let v872 : BitVec 32 := Scalar.addi c0_i32_647 v871
  v872.toNat
def k0_dev28 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_678 : BitVec 32 := 14#32
  let v914 : BitVec 32 := Scalar.addi v2 c14_i32_678
  let c16_i32_679 : BitVec 32 := 16#32
  let c0_i32_680 : BitVec 32 := 0#32
  let v915 : BitVec 1 := Scalar.cmpi .eq c16_i32_679 c0_i32_680
  let c1_i32_681 : BitVec 32 := 1#32
  let v916 : BitVec 32 := Scalar.select v915 c1_i32_681 c16_i32_679
  let v917 : BitVec 32 := Scalar.remsi v914 v916
  let c0_i32_683 : BitVec 32 := 0#32
  let v919 : BitVec 1 := Scalar.cmpi .slt v917 c0_i32_683
  let c0_i32_684 : BitVec 32 := 0#32
  let v920 : BitVec 1 := Scalar.cmpi .slt v916 c0_i32_684
  let v921 : BitVec 1 := Scalar.xori v919 v920
  let c0_i32_682 : BitVec 32 := 0#32
  let v918 : BitVec 1 := Scalar.cmpi .ne v917 c0_i32_682
  let v922 : BitVec 1 := Scalar.andi v921 v918
  let v923 : BitVec 32 := Scalar.addi v917 v916
  let v924 : BitVec 32 := Scalar.select v922 v923 v917
  let c1_i32_687 : BitVec 32 := 1#32
  let v925 : BitVec 32 := Scalar.muli v924 c1_i32_687
  let v926 : BitVec 32 := Scalar.addi c0_i32_688 v925
  v926.toNat
def k0_dev29 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_719 : BitVec 32 := 1#32
  let v968 : BitVec 32 := Scalar.addi v2 c1_i32_719
  let c16_i32_720 : BitVec 32 := 16#32
  let c0_i32_721 : BitVec 32 := 0#32
  let v969 : BitVec 1 := Scalar.cmpi .eq c16_i32_720 c0_i32_721
  let c1_i32_722 : BitVec 32 := 1#32
  let v970 : BitVec 32 := Scalar.select v969 c1_i32_722 c16_i32_720
  let v971 : BitVec 32 := Scalar.remsi v968 v970
  let c0_i32_724 : BitVec 32 := 0#32
  let v973 : BitVec 1 := Scalar.cmpi .slt v971 c0_i32_724
  let c0_i32_725 : BitVec 32 := 0#32
  let v974 : BitVec 1 := Scalar.cmpi .slt v970 c0_i32_725
  let v975 : BitVec 1 := Scalar.xori v973 v974
  let c0_i32_723 : BitVec 32 := 0#32
  let v972 : BitVec 1 := Scalar.cmpi .ne v971 c0_i32_723
  let v976 : BitVec 1 := Scalar.andi v975 v972
  let v977 : BitVec 32 := Scalar.addi v971 v970
  let v978 : BitVec 32 := Scalar.select v976 v977 v971
  let c1_i32_728 : BitVec 32 := 1#32
  let v979 : BitVec 32 := Scalar.muli v978 c1_i32_728
  let v980 : BitVec 32 := Scalar.addi c0_i32_729 v979
  v980.toNat
def k0_dev30 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_747 : BitVec 32 := 15#32
  let v1005 : BitVec 32 := Scalar.addi v2 c15_i32_747
  let c16_i32_748 : BitVec 32 := 16#32
  let c0_i32_749 : BitVec 32 := 0#32
  let v1006 : BitVec 1 := Scalar.cmpi .eq c16_i32_748 c0_i32_749
  let c1_i32_750 : BitVec 32 := 1#32
  let v1007 : BitVec 32 := Scalar.select v1006 c1_i32_750 c16_i32_748
  let v1008 : BitVec 32 := Scalar.remsi v1005 v1007
  let c0_i32_752 : BitVec 32 := 0#32
  let v1010 : BitVec 1 := Scalar.cmpi .slt v1008 c0_i32_752
  let c0_i32_753 : BitVec 32 := 0#32
  let v1011 : BitVec 1 := Scalar.cmpi .slt v1007 c0_i32_753
  let v1012 : BitVec 1 := Scalar.xori v1010 v1011
  let c0_i32_751 : BitVec 32 := 0#32
  let v1009 : BitVec 1 := Scalar.cmpi .ne v1008 c0_i32_751
  let v1013 : BitVec 1 := Scalar.andi v1012 v1009
  let v1014 : BitVec 32 := Scalar.addi v1008 v1007
  let v1015 : BitVec 32 := Scalar.select v1013 v1014 v1008
  let c1_i32_756 : BitVec 32 := 1#32
  let v1016 : BitVec 32 := Scalar.muli v1015 c1_i32_756
  let v1017 : BitVec 32 := Scalar.addi c0_i32_757 v1016
  v1017.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v1038 : BitVec 32 := Scalar.muli v2 c512_i32
  let v1039 : Index := Scalar.indexCast v1038
  let c0_773 : Index := 0#32
  ![v1039.toNat, 0]
def k0_off5 (d0 : Dev nD) (c8_i32_774 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1041 : BitVec 32 := Scalar.subi v2 c8_i32_774
  let c16_i32_775 : BitVec 32 := 16#32
  let c0_i32_776 : BitVec 32 := 0#32
  let v1042 : BitVec 1 := Scalar.cmpi .eq c16_i32_775 c0_i32_776
  let c1_i32_777 : BitVec 32 := 1#32
  let v1043 : BitVec 32 := Scalar.select v1042 c1_i32_777 c16_i32_775
  let v1044 : BitVec 32 := Scalar.remsi v1041 v1043
  let c0_i32_779 : BitVec 32 := 0#32
  let v1046 : BitVec 1 := Scalar.cmpi .slt v1044 c0_i32_779
  let c0_i32_780 : BitVec 32 := 0#32
  let v1047 : BitVec 1 := Scalar.cmpi .slt v1043 c0_i32_780
  let v1048 : BitVec 1 := Scalar.xori v1046 v1047
  let c0_i32_778 : BitVec 32 := 0#32
  let v1045 : BitVec 1 := Scalar.cmpi .ne v1044 c0_i32_778
  let v1049 : BitVec 1 := Scalar.andi v1048 v1045
  let v1050 : BitVec 32 := Scalar.addi v1044 v1043
  let v1051 : BitVec 32 := Scalar.select v1049 v1050 v1044
  ![v1051.toNat]
def k0_off6 (d0 : Dev nD) (c8_i32_774 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1041 : BitVec 32 := Scalar.subi v2 c8_i32_774
  let c16_i32_775 : BitVec 32 := 16#32
  let c0_i32_776 : BitVec 32 := 0#32
  let v1042 : BitVec 1 := Scalar.cmpi .eq c16_i32_775 c0_i32_776
  let c1_i32_777 : BitVec 32 := 1#32
  let v1043 : BitVec 32 := Scalar.select v1042 c1_i32_777 c16_i32_775
  let v1044 : BitVec 32 := Scalar.remsi v1041 v1043
  let c0_i32_779 : BitVec 32 := 0#32
  let v1046 : BitVec 1 := Scalar.cmpi .slt v1044 c0_i32_779
  let c0_i32_780 : BitVec 32 := 0#32
  let v1047 : BitVec 1 := Scalar.cmpi .slt v1043 c0_i32_780
  let v1048 : BitVec 1 := Scalar.xori v1046 v1047
  let c0_i32_778 : BitVec 32 := 0#32
  let v1045 : BitVec 1 := Scalar.cmpi .ne v1044 c0_i32_778
  let v1049 : BitVec 1 := Scalar.andi v1048 v1045
  let v1050 : BitVec 32 := Scalar.addi v1044 v1043
  let v1051 : BitVec 32 := Scalar.select v1049 v1050 v1044
  let c0_i32_785 : BitVec 32 := 0#32
  let c0_i32_786 : BitVec 32 := 0#32
  ![v1051.toNat, 0, 0]
def k0_off7 (d0 : Dev nD) (c8_i32_774 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1041 : BitVec 32 := Scalar.subi v2 c8_i32_774
  let c16_i32_775 : BitVec 32 := 16#32
  let c0_i32_776 : BitVec 32 := 0#32
  let v1042 : BitVec 1 := Scalar.cmpi .eq c16_i32_775 c0_i32_776
  let c1_i32_777 : BitVec 32 := 1#32
  let v1043 : BitVec 32 := Scalar.select v1042 c1_i32_777 c16_i32_775
  let v1044 : BitVec 32 := Scalar.remsi v1041 v1043
  let c0_i32_779 : BitVec 32 := 0#32
  let v1046 : BitVec 1 := Scalar.cmpi .slt v1044 c0_i32_779
  let c0_i32_780 : BitVec 32 := 0#32
  let v1047 : BitVec 1 := Scalar.cmpi .slt v1043 c0_i32_780
  let v1048 : BitVec 1 := Scalar.xori v1046 v1047
  let c0_i32_778 : BitVec 32 := 0#32
  let v1045 : BitVec 1 := Scalar.cmpi .ne v1044 c0_i32_778
  let v1049 : BitVec 1 := Scalar.andi v1048 v1045
  let v1050 : BitVec 32 := Scalar.addi v1044 v1043
  let v1051 : BitVec 32 := Scalar.select v1049 v1050 v1044
  let v1060 : Index := Scalar.indexCast v1051
  let c0_789 : Index := 0#32
  let c0_790 : Index := 0#32
  ![v1060.toNat, 0, 0]
def k0_off8 (d0 : Dev nD) (c8_i32_774 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1041 : BitVec 32 := Scalar.subi v2 c8_i32_774
  let c16_i32_775 : BitVec 32 := 16#32
  let c0_i32_776 : BitVec 32 := 0#32
  let v1042 : BitVec 1 := Scalar.cmpi .eq c16_i32_775 c0_i32_776
  let c1_i32_777 : BitVec 32 := 1#32
  let v1043 : BitVec 32 := Scalar.select v1042 c1_i32_777 c16_i32_775
  let v1044 : BitVec 32 := Scalar.remsi v1041 v1043
  let c0_i32_779 : BitVec 32 := 0#32
  let v1046 : BitVec 1 := Scalar.cmpi .slt v1044 c0_i32_779
  let c0_i32_780 : BitVec 32 := 0#32
  let v1047 : BitVec 1 := Scalar.cmpi .slt v1043 c0_i32_780
  let v1048 : BitVec 1 := Scalar.xori v1046 v1047
  let c0_i32_778 : BitVec 32 := 0#32
  let v1045 : BitVec 1 := Scalar.cmpi .ne v1044 c0_i32_778
  let v1049 : BitVec 1 := Scalar.andi v1048 v1045
  let v1050 : BitVec 32 := Scalar.addi v1044 v1043
  let v1051 : BitVec 32 := Scalar.select v1049 v1050 v1044
  let c512_i32_791 : BitVec 32 := 512#32
  let v1064 : BitVec 32 := Scalar.muli v1051 c512_i32_791
  let v1065 : Index := Scalar.indexCast v1064
  let c0_792 : Index := 0#32
  ![v1065.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Pieces.lean ====
/-
The kernel's body in PIECES: the same sequence of effects the kernel function issues, written once per KIND of
step over the number of the step — fetch a column block of the weights, signal a device, compute a block and store
it, send a block, take a received block, wait for a send to drain — and then composed.

`body_eq_pieces` says that the kernel function on its buffers IS that composition.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic Idealize.ShloMosaic.TcCoe
open Idealize.SL Idealize.SL.Sem

variable {F : FTy → Type} [FloatOps F]

/-- The programs of a kernel body. -/
abbrev KProg (F : FTy → Type) : Type 1 := Prog (TpuEff nD τ sig (Elt F) Λ₀ .tc) PUnit

/-! ## The buffers -/

/-- This device's rows of `x`, staged. -/
abbrev xM : Memref sig .tc .vmem S512x8192 .f32 := Memref.whole cc0_stg0_0
/-- The weights. -/
abbrev wM : Memref sig .tc .hbm S8192x4096 .f32 := Memref.whole main_arg1
/-- This device's columns of the result, staged. -/
abbrev oM : Memref sig .tc .vmem S8192x256 .f32 := Memref.whole cc0_stg1_0
/-- Three slots for column blocks of the weights. -/
abbrev bM : Memref sig .tc .vmem S3x8192x256 .f32 := Memref.whole cc0_scratch0
/-- Sixteen slots for blocks to be sent. -/
abbrev yM : Memref sig .tc .vmem S16x512x256 .bf16 := Memref.whole cc0_scratch1
/-- Sixteen slots for blocks received, slot `d` for device `d`'s. -/
abbrev rM : Memref sig .tc .vmem S16x512x256 .bf16 := Memref.whole cc0_scratch2

/-! ## The tables of the schedule -/

/-- The ring offset whose block step `s` computes. -/
def ofs : Fin 16 → Fin 16 := ![8, 7, 9, 3, 6, 10, 5, 13, 11, 4, 12, 2, 14, 1, 15, 0]
/-- The same less one, for the fifteen steps that are sent. -/
def ofr : Fin 15 → Fin 15 := ![7, 6, 8, 2, 5, 9, 4, 12, 10, 3, 11, 1, 13, 0, 14]
/-- The device the `t`-th signal goes to. -/
def gdev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩]
/-- The device step `s` sends to. -/
def sdev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩,
    ⟨k0_dev20 c, k0_dev20_lt c⟩, ⟨k0_dev21 c, k0_dev21_lt c⟩, ⟨k0_dev22 c, k0_dev22_lt c⟩, ⟨k0_dev23 c, k0_dev23_lt c⟩,
    ⟨k0_dev24 c, k0_dev24_lt c⟩, ⟨k0_dev25 c, k0_dev25_lt c⟩, ⟨k0_dev26 c, k0_dev26_lt c⟩, ⟨k0_dev27 c, k0_dev27_lt c⟩,
    ⟨k0_dev28 c, k0_dev28_lt c⟩, ⟨k0_dev29 c, k0_dev29_lt c⟩, ⟨k0_dev30 c, k0_dev30_lt c⟩]

/-- The slot of the weights buffer step `s` uses. -/
abbrev wof (s : Fin 16) : Fin 3 := ⟨s.val % 3, Nat.mod_lt _ (by decide)⟩

/-! ## Regions of the buffers -/

/-- Slot `j` of the weights buffer lies within it. -/
theorem inbW (j : Fin 3) : ∀ a, (![j.val, 0, 0] : Fin 3 → Nat) a + S1x8192x256.size a ≤ S3x8192x256.size a := by
  revert j; decide
/-- Semaphore `j` of the fetches is one of the three. -/
theorem inbC (j : Fin 3) : ∀ a, (![j.val] : Fin 1 → Nat) a + S1.size a ≤ S3.size a := by
  revert j; decide
/-- Slot `s` of a buffer of blocks lies within it. -/
theorem inbY (s : Fin 16) : ∀ a, (![s.val, 0, 0] : Fin 3 → Nat) a + S1x512x256.size a ≤ S16x512x256.size a := by
  revert s; decide
/-- Semaphore `s` of a row of sixteen is one of them. -/
theorem inbS (s : Fin 16) : ∀ a, (![s.val] : Fin 1 → Nat) a + S1.size a ≤ S16.size a := by
  revert s; decide

/-- The rectangle of slot `j` of the weights buffer. -/
abbrev rcW (j : Fin 3) : Rect S3x8192x256 :=
  Rect.unit (s := S3x8192x256) ![j.val, 0, 0] S1x8192x256.size (inbW j)
/-- The rectangle of slot `s` of the send buffer. -/
abbrev rcY (s : Fin 16) : Rect S16x512x256 :=
  Rect.unit (s := S16x512x256) ![s.val, 0, 0] S1x512x256.size (inbY s)
/-- The rectangle of the landing slot of device `c`'s blocks, in a receive buffer. -/
abbrev rcL (c : Dev nD) : Rect S16x512x256 :=
  Rect.unit (s := S16x512x256) (k0_off3 c) S1x512x256.size (k0_off3_inb c)
/-- The rectangle of the slot the `s`-th received block landed in. -/
abbrev rcR (c : Dev nD) (s : Fin 15) : Rect S16x512x256 :=
  Rect.unit (s := S16x512x256) (k0_off6 c (BitVec.ofNat 32 (1 + (ofr s).val))) S1x512x256.size (k0_off6_inb c (ofr s))
/-- The same slot, as it is loaded. -/
abbrev rcR' (c : Dev nD) (s : Fin 15) : Rect S16x512x256 :=
  Rect.unit (s := S16x512x256) (k0_off7 c (BitVec.ofNat 32 (1 + (ofr s).val))) S1x512x256.size (k0_off7_inb c (ofr s))
/-- The rows of the result the `s`-th received block goes to. -/
abbrev rcO (c : Dev nD) (s : Fin 15) : Rect S8192x256 :=
  Rect.unit (s := S8192x256) (k0_off8 c (BitVec.ofNat 32 (1 + (ofr s).val))) S512x256.size (k0_off8_inb c (ofr s))
/-- The rows of the result this device's own block goes to. -/
abbrev rcOwn (c : Dev nD) : Rect S8192x256 :=
  Rect.unit (s := S8192x256) (k0_off4 c) S512x256.size (k0_off4_inb c)
/-- The whole of the staged rows of `x`. -/
abbrev rcX : Rect S512x8192 :=
  Rect.unit (s := S512x8192) ![0, 0] S512x8192.size inb_S512x8192_S512x8192_0_0
/-- The columns of the weights step `s` fetches. -/
abbrev rcC (c : Dev nD) (s : Fin 16) : Rect S8192x4096 :=
  Rect.unit (s := S8192x4096) (k0_off1 c (BitVec.ofNat 32 (ofs s).val)) S8192x256.size (k0_off1_inb c (ofs s))

/-- Slot `j` of the weights buffer, as a block. -/
abbrev wSl (j : Fin 3) : Memref sig .tc .vmem S8192x256 .f32 :=
  (bM.slice (rcW j) (fun _ => rfl)).squeeze S8192x256 squeezes_S1x8192x256_S8192x256
/-- The columns of the weights step `s` fetches. -/
abbrev cSl (c : Dev nD) (s : Fin 16) : Memref sig .tc .hbm S8192x256 .f32 := wM.slice (rcC c s) (fun _ => rfl)
/-- Slot `s` of the send buffer, as a block. -/
abbrev ySl (s : Fin 16) : Memref sig .tc .vmem S512x256 .bf16 :=
  (yM.slice (rcY s) (fun _ => rfl)).squeeze S512x256 squeezes_S1x512x256_S512x256
/-- The landing slot of device `c`'s blocks. -/
abbrev lSl (c : Dev nD) : Memref sig .tc .vmem S512x256 .bf16 :=
  (rM.slice (rcL c) (fun _ => rfl)).squeeze S512x256 squeezes_S1x512x256_S512x256
/-- The slot the `s`-th received block landed in. -/
abbrev rSl (c : Dev nD) (s : Fin 15) : Memref sig .tc .vmem S512x256 .bf16 :=
  (rM.slice (rcR c s) (fun _ => rfl)).squeeze S512x256 squeezes_S1x512x256_S512x256

/-- The semaphore of slot `j`'s fetches. -/
abbrev cSem (j : Fin 3) : DmaSem sig :=
  ((cc0_scratch3.slice (Rect.unit (s := S3) ![j.val] S1.size (inbC j))).squeeze S_ squeezes_S1_S_).sem
/-- The semaphore of step `s`'s send. -/
abbrev sSem (s : Fin 16) : DmaSem sig :=
  ((cc0_scratch4.slice (Rect.unit (s := S16) ![s.val] S1.size (inbS s))).squeeze S_ squeezes_S1_S_).sem
/-- The receive semaphore of blocks from device `c`. -/
abbrev rSem (c : Dev nD) : DmaSem sig :=
  ((cc0_scratch5.slice (Rect.unit (s := S16) (k0_off2 c) S1.size (k0_off2_inb c))).squeeze S_ squeezes_S1_S_).sem
/-- The receive semaphore the `s`-th receive waits on. -/
abbrev gSem (c : Dev nD) (s : Fin 15) : DmaSem sig :=
  ((cc0_scratch5.slice (Rect.unit (s := S16) (k0_off5 c (BitVec.ofNat 32 (1 + (ofr s).val))) S1.size (k0_off5_inb c (ofr s)))).squeeze S_ squeezes_S1_S_).sem
/-- The barrier semaphore. -/
abbrev barS : Sem sig := (SemArray.scalar (sig.barrier 0 rfl) : Sems sig S_).sem

/-- The staged argument is viewed whole, -/
theorem hxM : xM.IsWhole := Memref.isWhole_whole _
/-- so is the send buffer, -/
theorem hyM : yM.IsWhole := Memref.isWhole_whole _
/-- and the receive buffer. -/
theorem hrM : rM.IsWhole := Memref.isWhole_whole _

set_option maxRecDepth 4096 in
/-- A slot of bf16 blocks fills whole words, -/
theorem wordsY (s : Fin 16) : (rcY s).WholeWords (EltTy.packing .bf16) := by
  revert s; decide +kernel
set_option maxRecDepth 4096 in
/-- in packed rows. -/
theorem packedY (s : Fin 16) : (rcY s).PackedRows (EltTy.packing .bf16) := by
  revert s; decide +kernel

/-! ## The pieces -/

/-- The block of step `s` as it is stored for sending: the product, its sigmoid product, rounded. -/
abbrev blk (x : Vec F S512x8192 .f32) (w : Vec F S1x8192x256 .f32) : FVec F S1x512x256 .bf16 := k0_pay4 x w
/-- The device's own block, not rounded. -/
abbrev ownBlk (x : Vec F S512x8192 .f32) (w : Vec F S1x8192x256 .f32) : FVec F S512x256 .f32 := k0_pay24 (k0_pay23 x) w

/-- Start fetching the columns of step `s`. -/
def fetchP (c : Dev nD) (s : Fin 16) (k : KProg F) : KProg F :=
  .op (.enqueueDma (cSl c s) (.here (wSl (wof s))) (.dma (cSem (wof s))) (View.wordExact_bits rfl)
    ((View.wordExact_bits rfl).reshape _ _) ⟨Or.inl rfl, trivial⟩) fun _ => k

/-- Signal the `t`-th device's barrier. -/
def sigP (c : Dev nD) (t : Fin 15) (k : KProg F) : KProg F :=
  .op (.semSignal ((gdev c t), .tc) barS (1#32 : BitVec 32).toInt) fun _ => k

/-- Wait for all fifteen signals. -/
def barP (k : KProg F) : KProg F := .op (.semWait barS (15#32 : BitVec 32).toInt) fun _ => k

/-- Wait for the columns of step `s`, then read `x` and them. -/
def readP (c : Dev nD) (s : Fin 16) (k : Vec F S512x8192 .f32 → Vec F S1x8192x256 .f32 → KProg F) : KProg F :=
  .op (.waitDma2 (cSem (wof s)) (cSl c s) (wSl (wof s)) (View.wordExact_bits rfl)
    ((View.wordExact_bits rfl).reshape _ _)) fun _ =>
  .op (.load xM rcX.toLoadRect (View.loadsAt_vmem h_S512x8192)) fun x =>
  .op (.load bM (rcW (wof s)).toLoadRect (View.loadsAt_vmem h_S1x8192x256)) fun w => k x w

/-- Compute the block of step `s` and store it in its slot of the send buffer. -/
def compP (c : Dev nD) (s : Fin 16) (k : KProg F) : KProg F :=
  readP c s fun x w =>
  .op (.load yM (rcY s).toLoadRect (View.loadsAt_vmem h_S1x512x256)) fun _ =>
  .op (.store yM (rcY s) (blk x w) Finset.univ
    (View.stores_vmem h_S1x512x256 (hyM.storeExact_slice rfl _ (packedY s)) (fun _ => rfl)) (.inl rfl)) fun _ => k

/-- Send the block of step `s`. -/
def sendP (c : Dev nD) (s : Fin 15) (k : KProg F) : KProg F :=
  .op (.enqueueDma (ySl s.castSucc) (.remote (Dev.tc (sdev c s)) (lSl c) (.dma (sSem s.castSucc))) (.dma (rSem c))
    ((hyM.wordExact_slice rfl _ (wordsY s.castSucc)).reshape _ _)
    ((hrM.wordExact_slice rfl _ (k0_off3_wordsbf16 c)).reshape _ _) ⟨⟨rfl, Or.inl rfl⟩, trivial⟩) fun _ => k

/-- Compute the device's own block and store it in the result. -/
def ownP (c : Dev nD) (k : KProg F) : KProg F :=
  readP c 15 fun x w =>
  .op (.load oM (rcOwn c).toLoadRect (View.loadsAt_vmem h_S512x256)) fun _ =>
  .op (.store oM (rcOwn c) (ownBlk x w) Finset.univ (View.stores_vmem_bits_univ h_S512x256 rfl) (.inl rfl)) fun _ => k

/-- Wait for the `s`-th block received and store it in the result. -/
def recvP (c : Dev nD) (s : Fin 15) (k : KProg F) : KProg F :=
  .op (.waitDma2 (gSem c s) (ySl 0) (rSl c s) ((hyM.wordExact_slice rfl _ (wordsY 0)).reshape _ _)
    ((hrM.wordExact_slice rfl _ (k0_off6_wordsbf16 c (ofr s))).reshape _ _)) fun _ =>
  .op (.load rM (rcR' c s).toLoadRect (View.loadsAt_vmem h_S1x512x256)) fun v =>
  .op (.load oM (rcO c s).toLoadRect (View.loadsAt_vmem h_S512x256)) fun _ =>
  .op (.store oM (rcO c s) (k0_pay25 v) Finset.univ (View.stores_vmem_bits_univ h_S512x256 rfl) (.inl rfl)) fun _ => k

/-- Wait until step `s`'s send has drained. -/
def drainP (c : Dev nD) (s : Fin 15) (k : KProg F) : KProg F :=
  .op (.waitDma2 (sSem s.castSucc) (lSl c) (ySl s.castSucc)
    ((hrM.wordExact_slice rfl _ (k0_off3_wordsbf16 c)).reshape _ _)
    ((hyM.wordExact_slice rfl _ (wordsY s.castSucc)).reshape _ _)) fun _ => k

/-- `n` pieces in a row, from number `a` on. -/
def seqP {N : ℕ} (f : Fin N → KProg F → KProg F) : (n a : ℕ) → a + n ≤ N → KProg F → KProg F
  | 0, _, _, k => k
  | n + 1, a, h, k => f ⟨a, by omega⟩ (seqP f n (a + 1) (by omega) k)

/-- A step between: the fetch two ahead, this block, its send. -/
def stepP (c : Dev nD) (s : Fin 14) (k : KProg F) : KProg F :=
  fetchP c ⟨s.val + 2, by omega⟩ (compP c ⟨s.val, by omega⟩ (sendP c ⟨s.val, by omega⟩ k))

/-- The whole body on device `c`. -/
def bodyP (c : Dev nD) : KProg F :=
  fetchP c 0 <| fetchP c 1 <| seqP (sigP c) 15 0 (by omega) <|
  fetchP c 2 <| compP c 0 <| barP <| sendP c 0 <|
  seqP (stepP c) 13 1 (by omega) <|
  compP c 14 <| sendP c 14 <| ownP c <|
  seqP (recvP c) 15 0 (by omega) <| seqP (drainP c) 15 0 (by omega) <| .ret ⟨⟩

set_option maxRecDepth 100000 in
set_option maxHeartbeats 4000000 in
/-- The kernel function on its buffers is the composition of the pieces. -/
theorem body_eq_pieces :
    cc0_body (F := F) xM (Memref.isWhole_whole _) wM (Memref.isWhole_whole _) oM (Memref.isWhole_whole _)
      bM (Memref.isWhole_whole _) yM (Memref.isWhole_whole _) rM (Memref.isWhole_whole _)
      cc0_scratch3 cc0_scratch4 cc0_scratch5
    = .op .deviceId fun c => bodyP c := by
  rw [cc0_body_eq_skeleton]
  rfl

end Cert.Exchange

end
-- ==== Proof.Geometry.lean ====
/-
WHERE the pieces act: the devices, semaphores and regions the kernel's index chains name, in closed form — the target
of a step's block, the source of a received one, the slots, the rows and the columns.
-/
module

public import proofs.«01_k».proof.Proof.Pieces

@[expose] public section

noncomputable section

namespace Cert.Exchange

open Cert.KernelIdeal Cert.KernelIdeal.Gen

open Idealize.ShloMosaic Idealize.ShloMosaic.TcCoe
open Idealize.SL Idealize.SL.Sem

/-! ## Devices -/

set_option backward.proofsInPublic true in
/-- The device whose columns step `s` of device `c` computes. -/
def tgt (c : Dev nD) (s : Fin 16) : Dev nD := ⟨(c.val + (ofs s).val) % 16, Nat.mod_lt _ (by decide)⟩
set_option backward.proofsInPublic true in
/-- The device whose rows the `s`-th receive of device `c` takes. -/
def srcD (c : Dev nD) (s : Fin 15) : Dev nD := ⟨(c.val + (15 - (ofr s).val)) % 16, Nat.mod_lt _ (by decide)⟩

/-- The send of step `s` goes to the device whose columns the block holds. -/
theorem sdev_eq (c : Dev nD) (s : Fin 15) : sdev c s = tgt c s.castSucc := by
  revert c s; decide +kernel
/-- The fifteen signals go to fifteen devices … -/
theorem gdev_inj (c : Dev nD) : Function.Injective (gdev c) := by
  revert c; decide +kernel
/-- … none of them the signaller. -/
theorem gdev_ne (c : Dev nD) (t : Fin 15) : gdev c t ≠ c := by
  revert c t; decide +kernel
/-- The sixteen steps are for sixteen devices, -/
theorem tgt_inj (c : Dev nD) : Function.Injective (tgt c) := by
  revert c; decide +kernel
/-- the first fifteen for others, -/
theorem tgt_ne (c : Dev nD) (s : Fin 15) : tgt c s.castSucc ≠ c := by
  revert c s; decide +kernel
/-- the last for the device itself. -/
theorem tgt_last (c : Dev nD) : tgt c 15 = c := by
  revert c; decide +kernel
/-- The fifteen receives are from fifteen devices, -/
theorem srcD_inj (c : Dev nD) : Function.Injective (srcD c) := by
  revert c; decide +kernel
/-- all others. -/
theorem srcD_ne (c : Dev nD) (s : Fin 15) : srcD c s ≠ c := by
  revert c s; decide +kernel

/-! ## Offsets -/

/-- Step `s` fetches the columns of its target. -/
theorem off1_eq (c : Dev nD) (s : Fin 16) : k0_off1 c (BitVec.ofNat 32 (ofs s).val) = ![0, 256 * (tgt c s).val] := by
  revert c s; decide +kernel
/-- The `s`-th receive waits on its source's semaphore, -/
theorem off5_eq (c : Dev nD) (s : Fin 15) : k0_off5 c (BitVec.ofNat 32 (1 + (ofr s).val)) = ![(srcD c s).val] := by
  revert c s; decide +kernel
/-- for the source's slot, -/
theorem off6_eq (c : Dev nD) (s : Fin 15) : k0_off6 c (BitVec.ofNat 32 (1 + (ofr s).val)) = ![(srcD c s).val, 0, 0] := by
  revert c s; decide +kernel
/-- loads that slot, -/
theorem off7_eq (c : Dev nD) (s : Fin 15) : k0_off7 c (BitVec.ofNat 32 (1 + (ofr s).val)) = ![(srcD c s).val, 0, 0] := by
  revert c s; decide +kernel
/-- and stores it in the source's rows. -/
theorem off8_eq (c : Dev nD) (s : Fin 15) : k0_off8 c (BitVec.ofNat 32 (1 + (ofr s).val)) = ![512 * (srcD c s).val, 0] := by
  revert c s; decide +kernel

/-! ## Semaphores -/

/-- The `n`-th DMA semaphore of the core. -/
abbrev dsem (n : ℕ) (h : n < 37 := by omega) : DmaSem sig := ⟨n, h⟩

/-- The semaphore of fetch buffer `j`, by its number. -/
theorem cSem_eq (j : Fin 3) : cSem j = dsem (2 + j.val) := by
  revert j; decide
/-- The semaphore of send `s`, by its number. -/
theorem sSem_eq (s : Fin 16) : sSem s = dsem (5 + s.val) := by
  revert s; decide
set_option maxRecDepth 4096 in
/-- The receive semaphore of source `d`, by its number; -/
theorem slot5_eq (d : Fin 16) : ((cc0_scratch5.slice (Rect.unit (s := S16) ![d.val] S1.size (inbS d))).squeeze S_ squeezes_S1_S_).sem
    = dsem (21 + d.val) := by
  revert d; decide
/-- The semaphore at an offset of the receive semaphores. -/
theorem slot5_at (off : Fin 1 → ℕ) (h : ∀ a, off a + S1.size a ≤ S16.size a) (d : Fin 16) (hd : off = ![d.val]) :
    ((cc0_scratch5.slice (Rect.unit (s := S16) off S1.size h)).squeeze S_ squeezes_S1_S_).sem = dsem (21 + d.val) := by
  subst hd; exact slot5_eq d
/-- that number is in range. -/
theorem lt37 (d : Fin 16) : 21 + d.val < 37 := by have := d.isLt; omega
/-- The receive semaphore a device credits on its target is that of the device itself; -/
theorem rSem_eq (c : Dev nD) : rSem c = dsem (21 + c.val) (lt37 c) := slot5_at _ _ c (k0_off2_eq c)
/-- the one it waits on at step `s` is that of the step's source. -/
theorem gSem_eq (c : Dev nD) (s : Fin 15) : gSem c s = dsem (21 + (srcD c s).val) (lt37 (srcD c s)) :=
  slot5_at _ _ (srcD c s) (off5_eq c s)

/-! ## Regions, in closed form -/

/-- Slot `d` of the receive buffer, as a block. -/
abbrev qSl (d : Fin 16) : Memref sig .tc .vmem S512x256 .bf16 :=
  (rM.slice (rcY d) (fun _ => rfl)).squeeze S512x256 squeezes_S1x512x256_S512x256

/-- Device `e`'s columns lie within the weights. -/
theorem inbD (e : Fin 16) : ∀ a, (![0, 256 * e.val] : Fin 2 → Nat) a + S8192x256.size a ≤ S8192x4096.size a := by
  revert e; decide
/-- Device `d`'s rows lie within the result. -/
theorem inbR (d : Fin 16) : ∀ a, (![512 * d.val, 0] : Fin 2 → Nat) a + S512x256.size a ≤ S8192x256.size a := by
  revert d; decide
/-- The rectangle of device `e`'s columns of the weights. -/
abbrev rcD (e : Fin 16) : Rect S8192x4096 := Rect.unit (s := S8192x4096) ![0, 256 * e.val] S8192x256.size (inbD e)
/-- The rectangle of device `d`'s rows of the result. -/
abbrev rcQ (d : Fin 16) : Rect S8192x256 := Rect.unit (s := S8192x256) ![512 * d.val, 0] S512x256.size (inbR d)
/-- Device `e`'s columns of the weights. -/
abbrev dSl (e : Fin 16) : Memref sig .tc .hbm S8192x256 .f32 := wM.slice (rcD e) (fun _ => rfl)

/-- A slot at the offset of number `d` is slot `d`. -/
theorem slotR_at (off : Fin 3 → ℕ) (h : ∀ a, off a + S1x512x256.size a ≤ S16x512x256.size a) (d : Fin 16)
    (hd : off = ![d.val, 0, 0]) : Rect.unit (s := S16x512x256) off S1x512x256.size h = rcY d := by
  subst hd; rfl
/-- The slot a device writes on its target is its own number's; -/
theorem rcL_eq (c : Dev nD) : rcL c = rcY c := slotR_at _ _ c (k0_off3_eq c)
/-- the slot it reads at step `s` is its source's, -/
theorem rcR_eq (c : Dev nD) (s : Fin 15) : rcR c s = rcY (srcD c s) := slotR_at _ _ _ (off6_eq c s)
/-- in the second printing of that slot too. -/
theorem rcR'_eq (c : Dev nD) (s : Fin 15) : rcR' c s = rcY (srcD c s) := slotR_at _ _ _ (off7_eq c s)
/-- Rows at the offset of device `d` are device `d`'s. -/
theorem rows_at (off : Fin 2 → ℕ) (h : ∀ a, off a + S512x256.size a ≤ S8192x256.size a) (d : Fin 16)
    (hd : off = ![512 * d.val, 0]) : Rect.unit (s := S8192x256) off S512x256.size h = rcQ d := by
  subst hd; rfl
/-- The rows stored at step `s` are its source's; -/
theorem rcO_eq (c : Dev nD) (s : Fin 15) : rcO c s = rcQ (srcD c s) := rows_at _ _ _ (off8_eq c s)
/-- those stored from the device's own block are its own. -/
theorem rcOwn_eq (c : Dev nD) : rcOwn c = rcQ c := rows_at _ _ c (k0_off4_eq c)

/-- A view of a receive slot at the offset of number `d` is slot `d`'s. -/
theorem lSl_at (off : Fin 3 → ℕ) (h : ∀ a, off a + S1x512x256.size a ≤ S16x512x256.size a) (d : Fin 16)
    (hd : off = ![d.val, 0, 0]) :
    (rM.slice (Rect.unit (s := S16x512x256) off S1x512x256.size h) (fun _ => rfl)).squeeze S512x256 squeezes_S1x512x256_S512x256 = qSl d := by
  subst hd; rfl
/-- A device lands its blocks in the slot of its number, -/
theorem lSl_eq (c : Dev nD) : lSl c = qSl c := lSl_at _ _ c (k0_off3_eq c)
/-- and takes a received one from the slot of its source. -/
theorem rSl_eq (c : Dev nD) (s : Fin 15) : rSl c s = qSl (srcD c s) := lSl_at _ _ _ (off6_eq c s)
/-- A view of the weights at the offset of device `e` is device `e`'s columns. -/
theorem cSl_at (off : Fin 2 → ℕ) (h : ∀ a, off a + S8192x256.size a ≤ S8192x4096.size a) (e : Fin 16)
    (he : off = ![0, 256 * e.val]) :
    wM.slice (Rect.unit (s := S8192x4096) off S8192x256.size h) (fun _ => rfl) = dSl e := by
  subst he; rfl
/-- Step `s` fetches its target's columns. -/
theorem cSl_eq (c : Dev nD) (s : Fin 16) : cSl c s = dSl (tgt c s) := cSl_at _ _ _ (off1_eq c s)

end Cert.Exchange

end
-- ==== Proof.Mix.lean ====
/-
Families taken ONE MEMBER AT A TIME: `mix n A B` holds `B s` for the numbers `s` below `n`, done, and `A s` for the
others, to do. The next member is taken out of it as `A n` and put back as `B n`.
-/
module

public import Idealize.ShloMosaic.Lib.Pipeline.Launch
public import Idealize.ShloMosaic.Lib.Tactic

@[expose] public section

noncomputable section

namespace Cert.Exchange

open Idealize.SL Idealize.SL.RA Idealize.SL.BI
open scoped Idealize.SL.BI
open Idealize.SL.BI.BIBase Idealize.SL.BI.Laws Idealize.SL.ProofMode

variable {M : Type} [URA M] {N : ℕ}

/-- Done below `n`, to do from `n` on. -/
def mix (n : ℕ) (A B : Fin N → sProp M) : sProp M :=
  bigSep Finset.univ fun s => if n ≤ s.val then A s else B s

/-- The members of a mix other than the `n`-th. -/
def mixRest (n : Fin N) (A B : Fin N → sProp M) : sProp M :=
  bigSep (Finset.univ.erase n) fun s => if n.val ≤ s.val then A s else B s

/-- The next member comes out to do -/
theorem mix_take (n : Fin N) (A B : Fin N → sProp M) : mix n.val A B = iprop(A n ∗ mixRest n A B) := by
  unfold mix mixRest
  rw [bigSep_univ_at _ n, if_pos (le_refl _)]
/-- and goes back done. -/
theorem mix_put (n : Fin N) (A B : Fin N → sProp M) : mix (n.val + 1) A B = iprop(B n ∗ mixRest n A B) := by
  unfold mix mixRest
  rw [bigSep_univ_at _ n, if_neg (by omega)]
  congr 1
  refine bigSep_congr fun s hs => ?_
  have hne : s.val ≠ n.val := fun h => (Finset.mem_erase.mp hs).1 (Fin.ext h)
  by_cases h : n.val ≤ s.val
  · rw [if_pos h, if_pos (by omega)]
  · rw [if_neg h, if_neg (by omega)]
/-- At the start all is to do, -/
theorem mix_zero (A B : Fin N → sProp M) : mix 0 A B = bigSep Finset.univ A :=
  bigSep_congr fun s _ => if_pos (Nat.zero_le _)
/-- at the end all is done. -/
theorem mix_end (n : ℕ) (h : N ≤ n) (A B : Fin N → sProp M) : mix n A B = bigSep Finset.univ B :=
  bigSep_congr fun s _ => if_neg (by have := s.isLt; omega)

/-- A family over all but one of sixteen, by an enumeration of the fifteen. -/
theorem bigSep_erase_enum {J : Type} [Fintype J] [DecidableEq J] {n : ℕ} (f : Fin n → J) (hf : Function.Injective f)
    (c : J) (hc : ∀ s, f s ≠ c) (hn : Fintype.card J = n + 1) (Φ : J → sProp M) :
    bigSep (Finset.univ.erase c) Φ = bigSep Finset.univ fun s => Φ (f s) := by
  rw [show (Finset.univ.erase c : Finset J) = Finset.univ.map ⟨f, hf⟩ from ?_, bigSep_map]
  · rfl
  · symm
    refine Finset.eq_of_subset_of_card_le (fun x hx => ?_) ?_
    · obtain ⟨s, -, rfl⟩ := Finset.mem_map.mp hx
      exact Finset.mem_erase.mpr ⟨hc s, Finset.mem_univ _⟩
    · rw [Finset.card_map, Finset.card_erase_of_mem (Finset.mem_univ _), Finset.card_univ, Finset.card_univ, hn,
        Fintype.card_fin]
      omega

/-- A family over a finite type, by a rearrangement. -/
theorem bigSep_univ_enum {J : Type} [Fintype J] [DecidableEq J] {n : ℕ} (f : Fin n → J) (hf : Function.Injective f)
    (hn : Fintype.card J = n) (Φ : J → sProp M) :
    bigSep Finset.univ Φ = bigSep Finset.univ fun s => Φ (f s) := by
  rw [show (Finset.univ : Finset J) = Finset.univ.map ⟨f, hf⟩ from ?_, bigSep_map]
  · rfl
  · symm
    refine Finset.eq_univ_of_card _ ?_
    rw [Finset.card_map, Finset.card_univ, hn, Fintype.card_fin]

/-- Sums: the `n`-th term comes off a sum from `n` on. -/
theorem sum_from {α : Type} [AddCommMonoid α] (n : Fin N) (f : Fin N → α) :
    (∑ s : Fin N, if n.val ≤ s.val then f s else 0) = (∑ s : Fin N, if n.val + 1 ≤ s.val then f s else 0) + f n := by
  rw [← Finset.sum_erase_add _ _ (Finset.mem_univ n), ← Finset.sum_erase_add (Finset.univ) _ (Finset.mem_univ n),
    if_pos (le_refl _), if_neg (by omega), add_zero]
  congr 1
  refine Finset.sum_congr rfl fun s hs => ?_
  have hne : s.val ≠ n.val := fun h => (Finset.mem_erase.mp hs).1 (Fin.ext h)
  by_cases h : n.val ≤ s.val
  · rw [if_pos h, if_pos (by omega)]
  · rw [if_neg h, if_neg (by omega)]

end Cert.Exchange

end
-- ==== Proof.Schedule.lean ====
/-
THE PROTOCOL of the all-to-all, as a schedule of rounds over the semaphores' cells.

Per device `c`, every duty named by the device that pays it:

* BARRIER. Round 0: the fifteen other devices pay one unit each, before they compute anything. Device `d`'s unit hands
  `c` the slot of number `c` of `d`'s receive buffer: leave to land there. `c` waits for fifteen.
* FETCH, slot `j` of the weights buffer. Round `r` is step `3 r + j`: `c` itself pays, by its copy of the step's
  columns into the slot, the block's credit; the round hands it the slot, READING those columns, and the columns back.
* SEND, step `s` of the first fifteen. Round 0: `c` itself pays, when its block has been read out; the round hands it the
  slot of its send buffer back.
* RECEIVE, from device `d` other than `c`. Round 0: `d` pays by its copy landing; the round hands `c` the slot `d` of its
  receive buffer READING `d`'s block for `c`: the product of `d`'s rows with `c`'s columns, times its sigmoid, rounded.

The order of one device: its fifteen barrier units; then per step the fetch two ahead, the wait for this step's fetch, the
block, (once) the barrier wait, the send; then the fifteen receive waits; then the fifteen send waits. The levels follow
it: fetch and send cells below the barrier cells below the receive cells.
-/
module

public import proofs.«01_k».proof.Proof.Geometry
public import proofs.«01_k».proof.Proof.Mix

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resources, duties named by devices, beside the pipeline library's. -/
abbrev UB : Type := URounds (GSem nD τ sig) (Dev nD)
/-- The bookkeeping of the launch and of the kernel's semaphores, side by side; -/
abbrev UU : Type := UR sig nD τ × UB

local notation "𝕄" => MT nD τ sig Unit (Elt F) ℕ UU ℕ

/-- the launch's half, -/
abbrev EP : Emb (UR sig nD τ) (MT nD τ sig Unit (Elt F) ℕ UU ℕ) := embL
/-- and the semaphores' half. -/
abbrev ER : Emb UB (MT nD τ sig Unit (Elt F) ℕ UU ℕ) := embR

/-- No loop is measured: the body is straight code. -/
abbrev 𝒱₀ : Variants := Variants.none

variable (m : (ℓ : Loc nD τ sig) → Buf (Elt F) ℓ)

/-! ## Contents -/

/-- Device `c`'s rows of `x`, as staged. -/
def xAt (c : Dev nD) : (cc0_stg0_0 : Ref sig .tc).ty.Contents (Elt F) :=
  (win0_0.blk (0 : Fin 1)).view.read (Elt F) (m ((c : Thread nD τ).loc main_arg0))
/-- Device `c`'s copy of the weights. -/
def wAt (c : Dev nD) : Buf (Elt F) ((c : Thread nD τ).loc main_arg1) := m ((c : Thread nD τ).loc main_arg1)
/-- Its columns for device `e`. -/
def colAt (c : Dev nD) (e : Dev nD) : Vec F S8192x256 .f32 := (dSl e).view.read (Elt F) (wAt m c)
/-- A product times its sigmoid. -/
def silu (x : FVec F S512x8192 .f32) (w : FVec F S8192x256 .f32) : FVec F S512x256 .f32 :=
  have y : FVec F S512x256 .f32 :=
    matmul dot_S512x8192_S8192x256_S512x256_1_0_0_1_n_n none x w (constant S512x256 .f32 0x00000000#32)
  mulf y (logistic y)
/-- The block of device `c`'s rows and device `e`'s columns, -/
def fullAt (c : Dev nD) (e : Dev nD) : FVec F S512x256 .f32 :=
  silu (shapeCast S512x8192 (xAt m c) shapeCasts_S512x8192_S512x8192) (colAt m c e)
/-- and rounded, as it is sent. -/
def blkAt (c : Dev nD) (e : Dev nD) : FVec F S512x256 .bf16 := truncf .bf16 (fullAt m c e) bitsLt_bf16_f32

/-! ## Pieces of the buffers -/

/-- Slot `j` of device `c`'s weights buffer. -/
def wPts (c : Dev nD) (j : Fin 3) (f : Buf (Elt F) ((wSl j).view.loc (c : Thread nD τ))) : sProp 𝕄 :=
  (wSl j).view.loc (c : Thread nD τ) ↦[(wSl j).view.set]{fullShare} f
/-- Device `e`'s columns of device `c`'s copy of the weights. -/
def dPts (c : Dev nD) (e : Dev nD) : sProp 𝕄 :=
  (dSl e).view.loc (c : Thread nD τ) ↦[(dSl e).view.set]{fullShare} wAt m c
/-- Slot `s` of device `c`'s send buffer. -/
def yPts (c : Dev nD) (s : Fin 16) (f : Buf (Elt F) ((ySl s).view.loc (c : Thread nD τ))) : sProp 𝕄 :=
  (ySl s).view.loc (c : Thread nD τ) ↦[(ySl s).view.set]{fullShare} f
/-- Slot `d` of device `c`'s receive buffer. -/
def qPts (c : Dev nD) (d : Fin 16) (f : Buf (Elt F) ((qSl d).view.loc (c : Thread nD τ))) : sProp 𝕄 :=
  (qSl d).view.loc (c : Thread nD τ) ↦[(qSl d).view.set]{fullShare} f

/-! ## What the rounds hand over -/

/-- A fetched step: its slot reads the target's columns, which are back. -/
def copyPay (c : Dev nD) (s : Fin 16) : sProp 𝕄 :=
  iprop((∃ f, ⌜(wSl (wof s)).view.read (Elt F) f = colAt m c (tgt c s)⌝ ∗ wPts c (wof s) f) ∗ dPts m c (tgt c s))
/-- A received block: device `d`'s for device `c`. -/
def recvPay (c : Dev nD) (d : Fin 16) : sProp 𝕄 :=
  iprop(∃ f, ⌜(qSl d).view.read (Elt F) f = blkAt m d c⌝ ∗ qPts c d f)

omit [FloatOps F] in
/-- A slot of the weights buffer may be handed over through a semaphore, -/
instance wPts_storable (c : Dev nD) (j) (f) : BI.Storable (upEmb : UEmb _ 𝕄) (wPts (F := F) c j f) := by
  unfold wPts; infer_instance
omit [FloatOps F] in
/-- so may columns of the weights, -/
instance dPts_storable (c : Dev nD) (e) : BI.Storable (upEmb : UEmb _ 𝕄) (dPts (F := F) m c e) := by
  unfold dPts; infer_instance
omit [FloatOps F] in
/-- a slot of the send buffer, -/
instance yPts_storable (c : Dev nD) (s) (f) : BI.Storable (upEmb : UEmb _ 𝕄) (yPts (F := F) c s f) := by
  unfold yPts; infer_instance
omit [FloatOps F] in
/-- a slot of the receive buffer, -/
instance qPts_storable (c : Dev nD) (d) (f) : BI.Storable (upEmb : UEmb _ 𝕄) (qPts (F := F) c d f) := by
  unfold qPts; infer_instance
/-- what a fetch hands over, -/
instance copyPay_storable (c : Dev nD) (s) : BI.Storable (upEmb : UEmb _ 𝕄) (copyPay (F := F) m c s) := by
  unfold copyPay; infer_instance
/-- and what a landed block hands over. -/
instance recvPay_storable (c : Dev nD) (d) : BI.Storable (upEmb : UEmb _ 𝕄) (recvPay (F := F) m c d) := by
  unfold recvPay; infer_instance

/-! ## The cells -/

/-- The barrier semaphore of a device. -/
abbrev barCell (c : Dev nD) : GSem nD τ sig := ((c : Thread nD τ), .reg barS)
/-- Its copy semaphore of number `n`: -/
abbrev dCell (c : Dev nD) (n : ℕ) (h : n < 37 := by omega) : GSem nD τ sig := ((c : Thread nD τ), .dma (dsem n h))
/-- that of fetch buffer `j`, -/
abbrev copyCell (c : Dev nD) (j : Fin 3) : GSem nD τ sig := dCell c (2 + j.val)
/-- that of send `s`, -/
abbrev sendCell (c : Dev nD) (s : Fin 16) : GSem nD τ sig := dCell c (5 + s.val)
/-- that of the block from `d`. -/
abbrev recvCell (c : Dev nD) (d : Fin 16) : GSem nD τ sig := dCell c (21 + d.val) (lt37 d)

/-- The credit of a fetch, -/
abbrev NW : ℕ := (wSl 0).view.dmaCredit
/-- and of a block. -/
abbrev NB : ℕ := (qSl 0).view.dmaCredit
/-- A fetch credits something, -/
theorem NW_pos : 0 < NW := View.dmaCredit_pos _ (by decide)
/-- and so does a block. -/
theorem NB_pos : 0 < NB := View.dmaCredit_pos _ (by decide)

/-- The number `n`, of sixteen. -/
abbrev f16 (n : ℕ) : Fin 16 := ⟨n % 16, Nat.mod_lt _ (by decide)⟩

/-- The payers of a DMA cell's round. -/
def dmaDuties (c : Dev nD) (n r : ℕ) : Finset (Dev nD) :=
  if n < 2 then ∅
  else if n < 5 then (if 3 * r + (n - 2) < 16 then {c} else ∅)
  else if r ≠ 0 then ∅
  else if n < 20 then {c}
  else if n < 21 then ∅
  else if f16 (n - 21) = c then ∅ else {f16 (n - 21)}
/-- What they hand over. -/
def dmaPay (c : Dev nD) (n r : ℕ) : sProp 𝕄 :=
  if n < 5 then copyPay m c (f16 (3 * r + (n - 2)))
  else if n < 21 then iprop(∃ f, yPts c (f16 (n - 5)) f)
  else recvPay m c (f16 (n - 21))

/-- The schedule. -/
def Rd : Rounds.Schedule (GSem nD τ sig) (Dev nD) 𝕄 where
  duties g r := if g.1.2 = .tc then (match g.2 with
    | .reg _ => if r = 0 then Finset.univ.erase g.1.1 else ∅
    | .dma q => dmaDuties g.1.1 q.val r) else ∅
  unitless _ := False
  amount g _ _ := match g.2 with
    | .reg _ => 1
    | .dma q => if q.val < 5 then NW else NB
  payload g r d := match g.2 with
    | .reg _ => iprop(∃ f, qPts d g.1.1 f)
    | .dma q => dmaPay m g.1.1 q.val r
  amount_pos g _ _ _ := by
    rcases g with ⟨t, sm⟩
    cases sm with
    | reg _ => exact Nat.one_pos
    | dma q => dsimp only; split; exacts [NW_pos, NB_pos]

/-- All that the schedule hands over may be handed over through a semaphore. -/
instance Rd_storable (g : GSem nD τ sig) (r : ℕ) (d : Dev nD) :
    BI.Storable (upEmb : UEmb _ 𝕄) ((Rd (F := F) m).payload g r d) := by
  rcases g with ⟨t, sm⟩
  cases sm with
  | reg _ => show BI.Storable upEmb iprop(∃ f, qPts d t.1 f); infer_instance
  | dma q =>
    show BI.Storable upEmb (dmaPay m t.1 q.val r)
    unfold dmaPay
    (repeat' split) <;> infer_instance

section Sched
variable (c : Dev nD)

/-- A device's barrier is paid by every other device. -/
theorem duties_bar : (Rd (F := F) m).duties (barCell c) 0 = Finset.univ.erase c := rfl
/-- Each fetch is paid by the device itself, at its buffer's turn. -/
theorem duties_copy (s : Fin 16) : (Rd (F := F) m).duties (copyCell c (wof s)) (s.val / 3) = {c} := by
  show dmaDuties c (2 + s.val % 3) (s.val / 3) = _
  unfold dmaDuties
  rw [if_neg (by omega), if_pos (by omega), if_pos (by omega)]
/-- Each send is paid by the device itself. -/
theorem duties_send (s : Fin 15) : (Rd (F := F) m).duties (sendCell c s.castSucc) 0 = {c} := by
  show dmaDuties c (5 + s.val) 0 = _
  unfold dmaDuties
  rw [if_neg (by omega), if_neg (by omega), if_neg (by simp), if_pos (by omega)]
/-- A number below sixteen is itself as a device, -/
theorem f16_val (d : Fin 16) : f16 d.val = d := Fin.ext (Nat.mod_eq_of_lt d.isLt)
/-- also after adding and taking away. -/
theorem f16_add (k : ℕ) (d : Fin 16) : f16 (k + d.val - k) = d := by rw [Nat.add_sub_cancel_left]; exact f16_val d
/-- The block from `d` is paid by `d`. -/
theorem duties_recv (d : Fin 16) (h : d ≠ c) : (Rd (F := F) m).duties (recvCell c d) 0 = {d} := by
  show dmaDuties c (21 + d.val) 0 = _
  unfold dmaDuties
  rw [if_neg (by omega), if_neg (by omega), if_neg (by simp), if_neg (by omega), if_neg (by omega), f16_add, if_neg h]

/-- A signal is of one, -/
theorem amount_bar (d : Dev nD) : (Rd (F := F) m).amount (barCell c) 0 d = 1 := rfl
/-- a fetch of its bytes, -/
theorem amount_copy (j : Fin 3) (r : ℕ) (d : Dev nD) : (Rd (F := F) m).amount (copyCell c j) r d = NW :=
  if_pos (by have := j.isLt; show 2 + j.val < 5; omega)
/-- a send of a block's bytes, -/
theorem amount_send (s : Fin 16) (r : ℕ) (d : Dev nD) : (Rd (F := F) m).amount (sendCell c s) r d = NB :=
  if_neg (by show ¬ (5 + s.val < 5); omega)
/-- and so is a landed block. -/
theorem amount_recv (s : Fin 16) (r : ℕ) (d : Dev nD) : (Rd (F := F) m).amount (recvCell c s) r d = NB :=
  if_neg (by show ¬ (21 + s.val < 5); omega)

/-- A device waits for fifteen signals, -/
theorem expect_bar : (Rd (F := F) m).expect (barCell c) 0 = 15 := by
  unfold Schedule.expect Schedule.amountOf
  rw [duties_bar, Finset.sum_congr rfl fun d _ => amount_bar m c d, Finset.sum_const,
    Finset.card_erase_of_mem (Finset.mem_univ _), Finset.card_univ, Fintype.card_fin]
  rfl
/-- for one fetch, -/
theorem expect_copy (s : Fin 16) : (Rd (F := F) m).expect (copyCell c (wof s)) (s.val / 3) = NW := by
  unfold Schedule.expect Schedule.amountOf; rw [duties_copy, Finset.sum_singleton, amount_copy]
/-- for one send, -/
theorem expect_send (s : Fin 15) : (Rd (F := F) m).expect (sendCell c s.castSucc) 0 = NB := by
  unfold Schedule.expect Schedule.amountOf; rw [duties_send, Finset.sum_singleton, amount_send]
/-- and for one landed block. -/
theorem expect_recv (d : Fin 16) (h : d ≠ c) : (Rd (F := F) m).expect (recvCell c d) 0 = NB := by
  unfold Schedule.expect Schedule.amountOf; rw [duties_recv m c d h, Finset.sum_singleton, amount_recv]

/-- A signal from `d` lends its slot for the device's block. -/
theorem payload_bar (d : Dev nD) : (Rd (F := F) m).payload (barCell c) 0 d = iprop(∃ f, qPts d c f) := rfl
/-- A fetch hands over its buffer, filled, and the columns back; -/
theorem payload_copy (s : Fin 16) (d : Dev nD) :
    (Rd (F := F) m).payload (copyCell c (wof s)) (s.val / 3) d = copyPay m c s := by
  show dmaPay m c (2 + s.val % 3) (s.val / 3) = _
  unfold dmaPay
  rw [if_pos (by omega), show f16 (3 * (s.val / 3) + (2 + s.val % 3 - 2)) = s from ?_]
  refine Fin.ext ?_
  have := s.isLt
  show (3 * (s.val / 3) + (2 + s.val % 3 - 2)) % 16 = s.val
  omega
/-- a send gives its slot back; -/
theorem payload_send (s : Fin 16) (d : Dev nD) :
    (Rd (F := F) m).payload (sendCell c s) 0 d = iprop(∃ f, yPts c s f) := by
  show dmaPay m c (5 + s.val) 0 = _
  unfold dmaPay
  rw [if_neg (by omega), if_pos (by have := s.isLt; omega), f16_add]
/-- a landed block is handed over with what its sender computed. -/
theorem payload_recv (s : Fin 16) (d : Dev nD) :
    (Rd (F := F) m).payload (recvCell c s) 0 d = recvPay m c s := by
  show dmaPay m c (21 + s.val) 0 = _
  unfold dmaPay
  rw [if_neg (by omega), if_neg (by omega), f16_add]

/-- All that the barrier hands over is a slot on each other device; -/
theorem rest_bar : bigSep ((Rd (F := F) m).duties (barCell c) 0 \ ∅) (fun d => (Rd (F := F) m).payload (barCell c) 0 d)
    = bigSep (Finset.univ.erase c) fun d => iprop(∃ f, qPts (F := F) d c f) := by
  rw [Finset.sdiff_empty, duties_bar]; rfl
/-- all that a fetch's semaphore does is the one fetch, -/
theorem rest_copy (s : Fin 16) :
    bigSep ((Rd (F := F) m).duties (copyCell c (wof s)) (s.val / 3) \ ∅)
      (fun d => (Rd (F := F) m).payload (copyCell c (wof s)) (s.val / 3) d) = copyPay m c s := by
  rw [Finset.sdiff_empty, duties_copy, bigSep_singleton, payload_copy]
/-- a send's the one slot, -/
theorem rest_send (s : Fin 15) :
    bigSep ((Rd (F := F) m).duties (sendCell c s.castSucc) 0 \ ∅)
      (fun d => (Rd (F := F) m).payload (sendCell c s.castSucc) 0 d) = iprop(∃ f, yPts (F := F) c s.castSucc f) := by
  rw [Finset.sdiff_empty, duties_send, bigSep_singleton, payload_send]
/-- and a receive's the one block. -/
theorem rest_recv (d : Fin 16) (h : d ≠ c) :
    bigSep ((Rd (F := F) m).duties (recvCell c d) 0 \ ∅)
      (fun e => (Rd (F := F) m).payload (recvCell c d) 0 e) = recvPay m c d := by
  rw [Finset.sdiff_empty, duties_recv m c d h, bigSep_singleton, payload_recv]

/-! No cell has a duty past its last round. -/

/-- Nobody pays a barrier again; -/
theorem later_bar (r : ℕ) (h : 1 ≤ r) : (Rd (F := F) m).duties (barCell c) r = ∅ := by
  show (if r = 0 then Finset.univ.erase c else ∅) = ∅
  rw [if_neg (by omega)]
/-- nor a fetch buffer after the last fetch; -/
theorem later_copy (j : Fin 3) (r : ℕ) (h : 16 ≤ 3 * r + j.val) : (Rd (F := F) m).duties (copyCell c j) r = ∅ := by
  show dmaDuties c (2 + j.val) r = _
  unfold dmaDuties
  rw [if_neg (by omega), if_pos (by have := j.isLt; omega), if_neg (by omega)]
/-- nor a send's semaphore, and the last one is never paid; -/
theorem later_send (s : Fin 16) (r : ℕ) (h : 1 ≤ r ∨ s = 15) : (Rd (F := F) m).duties (sendCell c s) r = ∅ := by
  show dmaDuties c (5 + s.val) r = _
  unfold dmaDuties
  rw [if_neg (by omega), if_neg (by omega)]
  rcases h with h | h
  · rw [if_pos (by omega)]
  · subst h
    split
    · rfl
    · rw [if_neg (by decide), if_pos (by decide)]
/-- nor a receive's, and a device's own is never paid. -/
theorem later_recv (d : Fin 16) (r : ℕ) (h : 1 ≤ r ∨ d = c) : (Rd (F := F) m).duties (recvCell c d) r = ∅ := by
  show dmaDuties c (21 + d.val) r = _
  unfold dmaDuties
  rw [if_neg (by omega), if_neg (by omega)]
  rcases h with h | h
  · rw [if_pos (by omega)]
  · split
    · rfl
    · rw [if_neg (by omega), if_neg (by omega), f16_add, if_pos h]

end Sched

end Cert.Exchange

end
-- ==== Proof.Owed.lean ====
/-
What a device owes at launch and after each payment, the levels of the cells, and the cells' invariants as every
device's body holds them.
-/
module

public import proofs.«01_k».proof.Proof.Schedule

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed -/

/-- What device `c` owes the receive cells of its targets from step `n` on. -/
def oS (c : Dev nD) (n : ℕ) : CellTallies nD τ sig Unit :=
  ∑ s : Fin 15, if n ≤ s.val then tallyAt (recvCell (tgt c s.castSucc) c) () NB else 0
/-- What it owes the barrier cells from its `n`-th signal on. -/
def oB (c : Dev nD) (n : ℕ) : CellTallies nD τ sig Unit :=
  ∑ t : Fin 15, if n ≤ t.val then tallyAt (barCell (gdev c t)) () 1 else 0
/-- What it owes at launch. -/
def O₀ (c : Dev nD) : CellTallies nD τ sig Unit := oS c 0 + oB c 0

/-- Owed from send `s` on: that send, and what is owed from the next on. -/
theorem oS_step (c : Dev nD) (s : Fin 15) :
    oS c s.val = oS c (s.val + 1) + tallyAt (recvCell (tgt c s.castSucc) c) () NB :=
  sum_from s fun s : Fin 15 => tallyAt (recvCell (tgt c s.castSucc) c) () NB
/-- The same of the signals. -/
theorem oB_step (c : Dev nD) (t : Fin 15) :
    oB c t.val = oB c (t.val + 1) + tallyAt (barCell (gdev c t)) () 1 :=
  sum_from t fun t : Fin 15 => tallyAt (barCell (gdev c t)) () 1
/-- After the last send nothing is owed, -/
theorem oS_end (c : Dev nD) : oS c 15 = 0 :=
  Finset.sum_eq_zero fun s _ => if_neg (by omega)
/-- nor after the last signal. -/
theorem oB_end (c : Dev nD) : oB c 15 = 0 :=
  Finset.sum_eq_zero fun s _ => if_neg (by omega)

/-! ## Levels -/

/-- Every semaphore of a TensorCore has one level, the others none. -/
def L (g : GSem nD τ sig) : Finset Unit := if g.1.2 = .tc then {()} else ∅
/-- Barrier cells at 1, receive cells at 2, every other at 0. -/
def lv (g : GSem nD τ sig) (_ : Unit) : ℕ :=
  match g.2 with
  | .reg _ => 1
  | .dma q => if q.val < 21 then 0 else 2

/-- No level away from the TensorCores, -/
theorem L_of_ne (g : GSem nD τ sig) (h : g.1.2 ≠ .tc) : L g = ∅ := if_neg h
/-- and one on them. -/
theorem L_tc (c : Dev nD) (sm : SemLoc sig) : L ((c : Thread nD τ), sm) = {()} := if_pos rfl
/-- A receive semaphore is at 2, -/
theorem lv_recv (c : Dev nD) (d : Fin 16) : lv (recvCell c d) () = 2 :=
  if_neg (by show ¬ (21 + d.val < 21); omega)
/-- and a barrier at 1. -/
theorem lv_bar (c : Dev nD) : lv (barCell c) () = 1 := rfl

/-- Everything owed lies on devices' own cores, above `b`. -/
def Above (b : ℕ) (O : CellTallies nD τ sig Unit) : Prop :=
  ∀ (g : GSem nD τ sig) (u : Unit), 0 < O g u → g.1.2 = .tc ∧ b < lv g ()

/-- What is empty is above every level, -/
theorem Above.zero (b : ℕ) : Above b 0 := fun g u h => absurd h (Nat.lt_irrefl 0)
/-- so is a sum of what is, -/
theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0
/-- a finite sum too, -/
theorem Above.sum {b N : ℕ} (O : Fin N → CellTallies nD τ sig Unit) (h : ∀ i, Above b (O i)) : Above b (∑ i, O i) :=
  Finset.sum_induction O (Above b) (fun _ _ => Above.add) (Above.zero b) fun i _ => h i
/-- and one semaphore's debt, where its level is above. -/
theorem Above.at {b : ℕ} (c : Dev nD) (sm : SemLoc sig) (k : ℕ) (h : b < lv ((c : Thread nD τ), sm) ()) :
    Above b (tallyAt ((c : Thread nD τ), sm) () k) := by
  intro g u hg
  rw [tallyAt_apply] at hg
  by_cases hh : g = ((c : Thread nD τ), sm) ∧ u = ()
  · rw [hh.1]; exact ⟨rfl, h⟩
  · rw [if_neg hh] at hg; exact absurd hg (Nat.lt_irrefl 0)

/-- The sends owed are above the barriers, -/
theorem above_oS (c : Dev nD) (n : ℕ) : Above 1 (oS c n) :=
  Above.sum _ fun s => by
    split
    · exact Above.at _ _ _ (by rw [lv_recv]; decide)
    · exact Above.zero _
/-- and the signals owed are above the fetches. -/
theorem above_oB (c : Dev nD) (n : ℕ) : Above 0 (oB c n) :=
  Above.sum _ fun s => by
    split
    · exact Above.at _ _ _ (by rw [lv_bar]; decide)
    · exact Above.zero _
/-- What is above a level is above a lower one. -/
theorem Above.mono {b b' : ℕ} {O : CellTallies nD τ sig Unit} (h : Above b O) (hb : b' ≤ b) : Above b' O :=
  fun g u hg => ⟨(h g u hg).1, lt_of_le_of_lt hb (h g u hg).2⟩
/-- All that is owed at the start is above the fetches. -/
theorem above_O₀ (c : Dev nD) : Above 0 (O₀ c) := ((above_oS c 0).mono (by decide)).add (above_oB c 0)

omit [FloatOps F] in
/-- A device may wait on a cell of its own below everything it owes. -/
theorem mayWait_of {b : ℕ} (c : Dev nD) (sm : SemLoc sig) (O : CellTallies nD τ sig Unit) (hO : Above b O)
    (hb : lv ((c : Thread nD τ), sm) () ≤ b) : (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-! ## The cells' invariants -/

/-- The thirty-six cells of a device: its DMA cells, then its barrier cell. -/
def csem (i : Fin 36) : SemLoc sig := if h : i.val < 35 then .dma (dsem (2 + i.val)) else .reg barS
/-- Semaphore number `k` of a device. -/
abbrev kcell (ck : Dev nD × Fin 36) : GSem nD τ sig := ((ck.1 : Thread nD τ), csem ck.2)

/-- A device's own DMA cells, all of its region's. -/
def osem (i : Fin 35) : SemLoc sig := .dma (dsem (2 + i.val))

/-- The numbers: of fetch buffer `j`, -/
abbrev kC (j : Fin 3) : Fin 36 := ⟨j.val, by omega⟩
/-- of send `s`, -/
abbrev kS (s : Fin 16) : Fin 36 := ⟨3 + s.val, by omega⟩
/-- of the block from `d`, -/
abbrev kR (d : Fin 16) : Fin 36 := ⟨19 + d.val, by omega⟩
/-- of the barrier. -/
abbrev kB : Fin 36 := 35

/-- Copy semaphores of equal numbers are equal. -/
theorem dsem_congr (a b : ℕ) (ha hb) (h : a = b) : dsem a ha = dsem b hb := by subst h; rfl
/-- What the numbers stand for: the fetch buffers' semaphores, -/
theorem kcell_C (c : Dev nD) (j : Fin 3) : kcell (c, kC j) = copyCell c j := by
  unfold kcell csem; dsimp only; rw [dif_pos (by omega)]
/-- the sends', -/
theorem kcell_S (c : Dev nD) (s : Fin 16) : kcell (c, kS s) = sendCell c s := by
  unfold kcell csem; dsimp only
  rw [dif_pos (by omega)]
  exact congrArg (fun q => ((c : Thread nD τ), SemLoc.dma q)) (dsem_congr _ _ _ _ (by omega))
/-- the receives', -/
theorem kcell_R (c : Dev nD) (d : Fin 16) : kcell (c, kR d) = recvCell c d := by
  have := d.isLt
  unfold kcell csem; dsimp only
  rw [dif_pos (by omega)]
  exact congrArg (fun q => ((c : Thread nD τ), SemLoc.dma q)) (dsem_congr _ _ _ _ (by omega))
/-- and the barrier. -/
theorem kcell_B (c : Dev nD) : kcell (c, kB) = barCell c := by
  unfold kcell csem; dsimp only; rw [dif_neg (by decide)]

/-- Every cell's invariant, under the names `K`, and that its first round is reached. -/
def recs (K : Dev nD × Fin 36 → ℕ) : sProp 𝕄 :=
  bigSep Finset.univ fun p : Dev nD × Fin 36 =>
    iprop(cellInv ER (Rd m) (K p) (kcell p) ∗ reached ER (kcell p) 0)

/-- The record of all semaphores may be kept and copied. -/
instance recs_persistent (K : Dev nD × Fin 36 → ℕ) : BI.Persistent (recs (F := F) m K) := by
  unfold recs; infer_instance

variable (K : Dev nD × Fin 36 → ℕ) (c : Dev nD)

/-- It holds what is known of any one semaphore: -/
theorem recs_at (p : Dev nD × Fin 36) (g : GSem nD τ sig) (h : kcell p = g) :
    recs m K ⊢ iprop(cellInv ER (Rd m) (K p) g ∗ reached ER g 0) := by
  subst h
  unfold recs
  exact bigSep_elim (Finset.mem_univ p)

/-- of a fetch buffer's, -/
theorem recs_C (j : Fin 3) : recs m K ⊢ iprop(cellInv ER (Rd m) (K (c, kC j)) (copyCell c j) ∗ reached ER (copyCell c j) 0) :=
  recs_at m K (c, kC j) _ (kcell_C c j)
/-- of a send's, -/
theorem recs_S (s : Fin 16) : recs m K ⊢ iprop(cellInv ER (Rd m) (K (c, kS s)) (sendCell c s) ∗ reached ER (sendCell c s) 0) :=
  recs_at m K (c, kS s) _ (kcell_S c s)
/-- of a receive's, -/
theorem recs_R (d : Fin 16) : recs m K ⊢ iprop(cellInv ER (Rd m) (K (c, kR d)) (recvCell c d) ∗ reached ER (recvCell c d) 0) :=
  recs_at m K (c, kR d) _ (kcell_R c d)
/-- of a barrier. -/
theorem recs_B : recs m K ⊢ iprop(cellInv ER (Rd m) (K (c, kB)) (barCell c) ∗ reached ER (barCell c) 0) :=
  recs_at m K (c, kB) _ (kcell_B c)

end Cert.Exchange

end
-- ==== Proof.Steps.lean ====
/-
The rule of each piece of the body: what it takes, what it leaves, on a symbolic device.
-/
module

public import proofs.«01_k».proof.Proof.Owed
public import Idealize.ShloMosaic.Lib.Pipeline.Value

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The weakest precondition of a piece of device `c`'s body. -/
abbrev WP (c : Dev nD) (p : KProg F) (Q : PUnit → sProp 𝕄) : sProp 𝕄 :=
  wp frame (wpE (defs₀ (F := F)) 𝒱₀ (c : Thread nD τ) none) Set.univ p Q

/-- What device `c` owes, whatever it has waited for. -/
def ow (c : Dev nD) (O : CellTallies nD τ sig Unit) : sProp 𝕄 := iprop(∃ W, owes (c : Thread nD τ) O W)
/-- Its staged rows. -/
def xPts (c : Dev nD) : sProp 𝕄 := (c : Thread nD τ).loc cc0_stg0_0 ↦{fullShare} xAt m c

/-- The slot of the weights buffer that step `n` will use, free, its semaphore before the step's round. -/
def freeN (c : Dev nD) (n : ℕ) : sProp 𝕄 :=
  iprop((∃ f, wPts c ⟨n % 3, Nat.mod_lt _ (by decide)⟩ f)
    ∗ atPos ER (copyCell c ⟨n % 3, Nat.mod_lt _ (by decide)⟩) (n / 3) ∅ 0
    ∗ reached ER (copyCell c ⟨n % 3, Nat.mod_lt _ (by decide)⟩) (n / 3))
/-- Step `s`'s fetch under way. -/
def busy (c : Dev nD) (s : Fin 16) : sProp 𝕄 :=
  iprop(atPos ER (copyCell c (wof s)) (s.val / 3) ∅ 0 ∗ cred (tallyAt (copyCell c (wof s)) () NW))
/-- Step `s`'s block in its slot of the send buffer. -/
def yFull (c : Dev nD) (s : Fin 16) : sProp 𝕄 :=
  iprop(∃ f, ⌜(ySl s).view.read (Elt F) f = blkAt m c (tgt c s)⌝ ∗ yPts c s f)

variable (K : Dev nD × Fin 36 → ℕ) (c : Dev nD)

/-! ## A slot through the buffer and as a block -/

/-- What is loaded from or stored into a slot lies in that slot: of the weights buffer, -/
theorem setW (j : Fin 3) : (bM.access (rcW j)).set ⊆ (wSl j).view.set := (Memref.set_view_squeeze _ _).ge
/-- of the send buffer, -/
theorem setY (s : Fin 16) : (yM.access (rcY s)).set ⊆ (ySl s).view.set := (Memref.set_view_squeeze _ _).ge
/-- of the receive buffer. -/
theorem setQ (s : Fin 16) : (rM.access (rcY s)).set ⊆ (qSl s).view.set := (Memref.set_view_squeeze _ _).ge
omit [FloatOps F] in
/-- A send slot read as a block is its contents reshaped; -/
theorem read_ySl (s : Fin 16) (f : (cc0_scratch1 : Ref sig .tc).ty.Contents (Elt F)) :
    (ySl s).view.read (Elt F) f = shapeCast S512x256 ((yM.access (rcY s)).read (Elt F) f) shapeCasts_S1x512x256_S512x256 := rfl
omit [FloatOps F] in
/-- a receive slot likewise. -/
theorem read_qSl (s : Fin 16) (f : (cc0_scratch2 : Ref sig .tc).ty.Contents (Elt F)) :
    (qSl s).view.read (Elt F) f = shapeCast S512x256 ((rM.access (rcY s)).read (Elt F) f) shapeCasts_S1x512x256_S512x256 := rfl

/-! ## Fetches -/

/-- The start of fetch `s`, given its views in closed form: the buffer is lent until the fetch is waited for. -/
theorem wp_fetch_at (s : Fin 16) {M : Memref sig .tc .hbm S8192x256 .f32} {q : DmaSem sig}
    (hM : M = dSl (tgt c s)) (hq : q = dsem (2 + (wof s).val)) {h₁ h₂ h₃} {k : PUnit → KProg F} {Q : PUnit → sProp 𝕄} :
    iprop(recs m K ∗ freeN c s.val ∗ dutyTok ER (copyCell c (wof s)) (s.val / 3) c ∗ dPts m c (tgt c s))
      ⊢ iprop((busy c s -∗ WP c (k ⟨⟩) Q)
          -∗ WP c (.op (.enqueueDma M (.here (wSl (wof s))) (.dma q) h₁ h₂ h₃) k) Q) := by
  subst hM hq
  unfold freeN
  iintro ⟨#HI, ⟨⟨%f, Hw⟩, Hat, #Hr⟩, Ht, Hd⟩ Hk
  ihave Hc := (recs_C m K c (wof s)) $$ HI
  icases Hc with ⟨#Hi, -⟩
  unfold wPts dPts
  iapply (Rounds.wp_copy_pointsTo 𝒱₀ ER (Rd m) (c : Thread nD τ) none (κ := K (c, kC (wof s))) (r := s.val / 3) (d := c)
      (src := dSl (tgt c s)) (dst := wSl (wof s)) (fs := wAt m c) (fd := f) (q := fullShare)
      (by rw [duties_copy]; exact Finset.mem_singleton_self _) () NW rfl (amount_copy m c (wof s) _ c)
      (by
        rw [payload_copy]
        unfold copyPay wPts dPts
        iintro ⟨Hw, Hd⟩
        isplitl [Hw]
        · iexists ((wSl (wof s)).view.write (Elt F) f ((dSl (tgt c s)).view.read (Elt F) (wAt m c)) Finset.univ)
          isplitr
          · ipureintro; exact View.read_write_univ _ _
          · iexact Hw
        · iexact Hd)) $$ [Hw Hd Ht]
  · isplitr; · iexact Hi
    isplitl [Hd]; · iexact Hd
    isplitl [Hw]; · iexact Hw
    isplitl [Ht]; · iexact Ht
    iexact Hr
  iintro Hc
  iapply Hk
  unfold busy
  isplitl [Hat]; · iexact Hat
  iexact Hc

/-- A fetch: of a free slot and the target's columns. -/
theorem wp_fetch (s : Fin 16) {k : KProg F} {Q : PUnit → sProp 𝕄} :
    iprop(recs m K ∗ freeN c s.val ∗ dutyTok ER (copyCell c (wof s)) (s.val / 3) c ∗ dPts m c (tgt c s))
      ⊢ iprop((busy c s -∗ WP c k Q) -∗ WP c (fetchP c s k) Q) :=
  wp_fetch_at m K c s (k := fun _ => k) (cSl_eq c s) (cSem_eq (wof s))

/-! ## The barrier -/

/-- A signal: of the slot for the signalled device's blocks. -/
theorem wp_sig (t : Fin 15) (O : CellTallies nD τ sig Unit) {k : KProg F} {Q : PUnit → sProp 𝕄} :
    iprop(recs m K ∗ ow c (O + oB c t.val) ∗ dutyTok ER (barCell (gdev c t)) 0 c ∗ (∃ f, qPts c (gdev c t) f))
      ⊢ iprop((ow c (O + oB c (t.val + 1)) -∗ WP c k Q) -∗ WP c (sigP c t k) Q) := by
  unfold ow
  iintro ⟨#HI, ⟨%W, Ho⟩, Ht, Hq⟩ Hk
  ihave Hc := (recs_B m K (gdev c t)) $$ HI
  icases Hc with ⟨#Hi, #Hr⟩
  unfold sigP
  iapply (Rounds.wp_signal 𝒱₀ ER (Rd m) (c : Thread nD τ) none (dst := (gdev c t : Thread nD τ)) (κ := K (gdev c t, kB))
      (d := c) (r := 0) (by rw [duties_bar]; exact Finset.mem_erase.2 ⟨(gdev_ne c t).symm, Finset.mem_univ _⟩)
      ((amount_bar m (gdev c t) c).trans (by decide)) () (O + oB c (t.val + 1)) (O₀ := O + oB c t.val) (by rw [oB_step, ← add_assoc]; rfl) (W := W))
    $$ [Ho Ht Hq]
  · isplitr; · iexact Hi
    isplitl [Ho]; · iexact Ho
    isplitl [Ht]; · iexact Ht
    isplitl [Hq]; · rw [payload_bar]; iexact Hq
    iexact Hr
  iintro Ho
  iapply Hk
  iexists W
  iexact Ho

/-- The barrier wait: every other device's slot for this one's blocks. -/
theorem wp_bar (O : CellTallies nD τ sig Unit) (hO : Above 1 O) {k : KProg F} {Q : PUnit → sProp 𝕄} :
    iprop(recs m K ∗ levAts L lv ∗ cred (tallyAt (barCell c) () 15) ∗ ow c O ∗ atPos ER (barCell c) 0 ∅ 0)
      ⊢ iprop((ow c O ∗ atPos ER (barCell c) 1 ∅ 0 ∗ (bigSep (Finset.univ.erase c) fun d => iprop(∃ f, qPts d c f)) -∗ WP c k Q)
          -∗ WP c (barP k) Q) := by
  unfold ow
  iintro ⟨#HI, #Hl, Hcr, ⟨%W, Ho⟩, Hat⟩ Hk
  ihave Hc := (recs_B m K c) $$ HI
  icases Hc with ⟨#Hi, -⟩
  unfold barP
  iapply (Rounds.wp_wait_rest_token 𝒱₀ ER (Rd m) (c : Thread nD τ) none (κ := K (c, kB))
      (wpE_semWait_eq 𝒱₀ (c : Thread nD τ) none Set.univ) (Set.mem_univ _) () (O := O) (W := W) (R := 0) (m := 0) (T := ∅)
      (by rw [expect_bar]; decide)) $$ [Hcr Ho Hat]
  · isplitr; · iexact Hi
    isplitl [Hcr]; · iexact Hcr
    isplitl [Ho]; · iexact Ho
    isplitr; · iapply (mayWait_of c (.reg barS) O hO (by rw [lv_bar])); iexact Hl
    iexact Hat
  iintro ⟨Ho, Hat, -, Hp⟩
  ihave Hp := (Entails.of_eq (rest_bar m c)) $$ Hp
  iapply Hk
  isplitl [Ho]; · iexists _; iexact Ho
  isplitl [Hat]; · iexact Hat
  iexact Hp

/-! ## Blocks -/

/-- The load of the staged argument reads all of it. -/
theorem read_x (f : (cc0_stg0_0 : Ref sig .tc).ty.Contents (Elt F)) : xM.view.readAt (Elt F) rcX.toLoadRect f = f :=
  Memref.readAt_unit_zero (Elt F) cc0_stg0_0 (funext fun a => by fin_cases a <;> rfl) _ f

/-- A fetch buffer's semaphore is at level 0. -/
theorem lv_copy (j : Fin 3) : lv (copyCell c j) () = 0 := by
  exact if_pos (by show 2 + j.val < 21; omega)

/-- The wait for a fetch, and the reads of `x` and of the slot: the columns of the target. -/
theorem wp_read (s : Fin 16) (O : CellTallies nD τ sig Unit) (hO : Above 0 O)
    {k : Vec F S512x8192 .f32 → Vec F S1x8192x256 .f32 → KProg F} {Q : PUnit → sProp 𝕄} :
    iprop(recs m K ∗ levAts L lv ∗ busy c s ∗ xPts m c ∗ ow c O)
      ⊢ iprop((∀ w : Vec F S1x8192x256 .f32, ⌜shapeCast S8192x256 w shapeCasts_S1x8192x256_S8192x256 = colAt m c (tgt c s)⌝
              -∗ (freeN c (s.val + 3) ∗ dPts m c (tgt c s) ∗ xPts m c ∗ ow c O) -∗ WP c (k (xAt m c) w) Q)
          -∗ WP c (readP c s k) Q) := by
  unfold ow busy
  iintro ⟨#HI, #Hl, ⟨Hat, Hcr⟩, Hx, ⟨%W, Ho⟩⟩ Hk
  ihave Hc := (recs_C m K c (wof s)) $$ HI
  icases Hc with ⟨#Hi, -⟩
  unfold readP
  rw [cSem_eq]
  iapply (Rounds.wp_wait_rest_token 𝒱₀ ER (Rd m) (c : Thread nD τ) none (κ := K (c, kC (wof s)))
      (wpE_waitDma2_eq 𝒱₀ (c : Thread nD τ) none Set.univ) (Set.mem_univ _) () (O := O) (W := W) (R := s.val / 3) (m := 0) (T := ∅)
      (by rw [Nat.zero_add]; exact (expect_copy m c s).symm)) $$ [Hcr Ho Hat]
  · isplitr; · iexact Hi
    isplitl [Hcr]; · iexact Hcr
    isplitl [Ho]; · iexact Ho
    isplitr; · iapply (mayWait_of c _ O hO (lv_copy c (wof s)).le); iexact Hl
    iexact Hat
  iintro ⟨Ho, Hat, #Hr, Hp⟩
  ihave Hp := (Entails.of_eq (rest_copy m c s)) $$ Hp
  unfold copyPay
  icases Hp with ⟨⟨%f, %hf, Hw⟩, Hd⟩
  unfold xPts
  iapply (wp_load 𝒱₀ (c : Thread nD τ) none Set.univ (m := xM) (Finset.subset_univ _)) $$ Hx; iintro Hx
  rw [read_x]
  unfold wPts
  iapply (wp_load_rect 𝒱₀ (c : Thread nD τ) none Set.univ (m := bM) (r := rcW (wof s))
    (setW (wof s))) $$ Hw; iintro Hw
  ihave Hk := Hk $$ %((bM.access (rcW (wof s))).read (Elt F) f)
  ihave Hk := Hk $$ %hf
  iapply Hk
  isplitl [Hw Hat]
  · unfold freeN wPts
    have e1 : (⟨(s.val + 3) % 3, Nat.mod_lt _ (by decide)⟩ : Fin 3) = wof s := Fin.ext (by show (s.val + 3) % 3 = s.val % 3; omega)
    have e2 : (s.val + 3) / 3 = s.val / 3 + 1 := by omega
    rw [e1, e2]
    isplitl [Hw]; · iexists f; iexact Hw
    isplitl [Hat]; · iexact Hat
    iexact Hr
  isplitl [Hd]; · iexact Hd
  isplitl [Hx]; · iexact Hx
  iexists _; iexact Ho

/-- A step's block: its slot of the send buffer reads it. -/
theorem wp_comp (s : Fin 16) (O : CellTallies nD τ sig Unit) (hO : Above 0 O) {k : KProg F} {Q : PUnit → sProp 𝕄} :
    iprop(recs m K ∗ levAts L lv ∗ busy c s ∗ (∃ f, yPts c s f) ∗ xPts m c ∗ ow c O)
      ⊢ iprop(((freeN c (s.val + 3) ∗ dPts m c (tgt c s) ∗ yFull m c s ∗ xPts m c ∗ ow c O) -∗ WP c k Q)
          -∗ WP c (compP c s k) Q) := by
  iintro ⟨#HI, #Hl, Hb, ⟨%f, Hy⟩, Hx, Ho⟩ Hk
  unfold compP
  iapply (wp_read m K c s O hO) $$ [Hb Hx Ho]
  · isplitr; · iexact HI
    isplitr; · iexact Hl
    isplitl [Hb]; · iexact Hb
    isplitl [Hx]; · iexact Hx
    iexact Ho
  iintro %w %hw ⟨Hfr, Hd, Hx, Ho⟩
  unfold yPts
  iapply (wp_load_rect 𝒱₀ (c : Thread nD τ) none Set.univ (m := yM) (r := rcY s)
    (setY s)) $$ Hy; iintro Hy
  iapply (wp_store 𝒱₀ (c : Thread nD τ) none Set.univ (m := yM) (r := rcY s) (Mk := Finset.univ)
    (setY s)) $$ Hy; iintro Hy
  iapply Hk
  isplitl [Hfr]; · iexact Hfr
  isplitl [Hd]; · iexact Hd
  isplitl [Hy]
  · unfold yFull yPts
    iexists _
    isplitr
    rotate_left
    · iexact Hy
    · ipureintro
      rw [read_ySl, View.read_write_univ]
      show shapeCast S512x256 (shapeCast S1x512x256 (truncf .bf16 (silu _ (shapeCast S8192x256 w _)) _) _) _ = _
      rw [shapeCast_shapeCast, hw]
      rfl
  isplitl [Hx]; · iexact Hx
  iexact Ho

end Cert.Exchange

end
-- ==== Proof.Transfers.lean ====
/-
The rules of the pieces that move blocks between devices, and of those that store into the result.
-/
module

public import proofs.«01_k».proof.Proof.Steps

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 36 → ℕ) (c : Dev nD)

/-! ## Sends -/

/-- Send `s`, given its views in closed form: the block is paid onto the target, from the slot that the target lent. -/
theorem wp_send_at (s : Fin 15) (e : Dev nD) {n : Dev nD} {M : Memref sig .tc .vmem S512x256 .bf16} {q₁ q₂ : DmaSem sig}
    (he : tgt c s.castSucc = e) (hne : c ≠ e)
    (hn : n = e) (hM : M = qSl c) (hq₁ : q₁ = dsem (5 + s.castSucc.val)) (hq₂ : q₂ = dsem (21 + c.val) (lt37 c))
    {h₀ h₁ h₂ h₃} {k : PUnit → KProg F} {Q : PUnit → sProp 𝕄} :
    iprop(recs m K ∗ yFull m c s.castSucc ∗ (∃ f, qPts e c f) ∗ ow c (oS c s.val)
        ∗ dutyTok ER (sendCell c s.castSucc) 0 c ∗ dutyTok ER (recvCell e c) 0 c)
      ⊢ iprop(((cred (tallyAt (sendCell c s.castSucc) () NB) ∗ ow c (oS c (s.val + 1))) -∗ WP c (k ⟨⟩) Q)
          -∗ WP c (.op (.enqueueDma (ySl s.castSucc) (.remote (Dev.tc n) M (.dma q₁) h₀) (.dma q₂) h₁ h₂ h₃) k) Q) := by
  subst hn hM hq₁ hq₂
  subst he
  unfold ow yFull yPts qPts
  iintro ⟨#HI, ⟨%f, %hf, Hy⟩, ⟨%g, Hq⟩, ⟨%W, Ho⟩, Ht₁, Ht₂⟩ Hk
  ihave Hc := (recs_S m K c s.castSucc) $$ HI
  icases Hc with ⟨#Hi₁, #Hr₁⟩
  ihave Hc := (recs_R m K (tgt c s.castSucc) c) $$ HI
  icases Hc with ⟨#Hi₂, #Hr₂⟩
  iapply (Rounds.wp_send_pointsTo 𝒱₀ ER (Rd m) (c : Thread nD τ) none (κ₁ := K (c, kS s.castSucc)) (κ₂ := K (tgt c s.castSucc, kR c))
    (c' := (tgt c s.castSucc : Thread nD τ)) (src := ySl s.castSucc) (dst := qSl c) (fs := f) (q := fullShare)
    (r₁ := 0) (r₂ := 0) (d₁ := c) (d₂ := c) (fd := g)
    (by rw [duties_send]; exact Finset.mem_singleton_self _) (by rw [duties_recv m _ _ hne]; exact Finset.mem_singleton_self _)
    () () NB rfl (amount_send m c s.castSucc 0 c) (amount_recv m (tgt c s.castSucc) c 0 c) (oS c (s.val + 1)) (O₀ := oS c s.val)
    (oS_step c s) (W := W)
    (by
      rw [payload_send]
      unfold yPts
      iintro Hy
      iexists f
      iexact Hy)
    (by
      rw [payload_recv]
      unfold recvPay qPts
      iintro Hq
      iexists ((qSl c).view.write (Elt F) g ((ySl s.castSucc).view.read (Elt F) f) Finset.univ)
      isplitr
      · ipureintro; rw [View.read_write_univ]; exact hf
      · iexact Hq)) $$ [Hy Hq Ho Ht₁ Ht₂]
  · isplitr; · iexact Hi₁
    isplitr; · iexact Hi₂
    isplitl [Hy]; · iexact Hy
    isplitl [Hq]; · iexact Hq
    isplitl [Ho]; · iexact Ho
    isplitl [Ht₁]; · iexact Ht₁
    isplitr; · iexact Hr₁
    isplitl [Ht₂]; · iexact Ht₂
    iexact Hr₂
  iintro ⟨Hcr, Ho⟩
  iapply Hk
  isplitl [Hcr]; · iexact Hcr
  iexists W; iexact Ho

/-- A send: of a block in its slot, and the slot of the target's receive buffer that it lands in. -/
theorem wp_send (s : Fin 15) {k : KProg F} {Q : PUnit → sProp 𝕄} :
    iprop(recs m K ∗ yFull m c s.castSucc ∗ (∃ f, qPts (tgt c s.castSucc) c f) ∗ ow c (oS c s.val)
        ∗ dutyTok ER (sendCell c s.castSucc) 0 c ∗ dutyTok ER (recvCell (tgt c s.castSucc) c) 0 c)
      ⊢ iprop(((cred (tallyAt (sendCell c s.castSucc) () NB) ∗ ow c (oS c (s.val + 1))) -∗ WP c k Q)
          -∗ WP c (sendP c s k) Q) :=
  wp_send_at m K c s (tgt c s.castSucc) (k := fun _ => k) rfl (tgt_ne c s).symm (sdev_eq c s) (lSl_eq c) (sSem_eq s.castSucc) (rSem_eq c)

/-! ## The result -/

/-- Device `d`'s rows of device `c`'s columns of the result. -/
def partAt (c d : Dev nD) : FVec F S512x256 .f32 :=
  if d = c then fullAt m c c else extf .f32 (blkAt m d c) bitsLt_bf16_f32

/-- The staged result, its own rows and those of the first `n` sources stored. -/
def outOk (c : Dev nD) (n : ℕ) (f : (cc0_stg1_0 : Ref sig .tc).ty.Contents (Elt F)) : Prop :=
  (oM.access (rcQ c)).read (Elt F) f = partAt m c c
    ∧ ∀ s : Fin 15, s.val < n → (oM.access (rcQ (srcD c s))).read (Elt F) f = partAt m c (srcD c s)
/-- The staged result after `n` sources, held whole. -/
def oPts (c : Dev nD) (n : ℕ) : sProp 𝕄 :=
  iprop(∃ f, ⌜outOk m c n f⌝ ∗ ((c : Thread nD τ).loc cc0_stg1_0 ↦{fullShare} f))

/-- The rows of two devices do not meet, -/
theorem rows_disjoint (d d' : Fin 16) (h : d' ≠ d) (x : S512x256.Idx) :
    (oM.access (rcQ d')).emb x ∉ (oM.access (rcQ d)).setOn Finset.univ := by
  intro hx
  obtain ⟨y, -, hy⟩ := Finset.mem_map.mp hx
  have h0 := congrArg (fun i : S8192x256.Idx => (i 0).val) hy
  have hx0 : (x 0).val < 512 := (x 0).isLt
  have hy0 : (y 0).val < 512 := (y 0).isLt
  have h1 : 512 * d.val + 1 * (y 0).val = 512 * d'.val + 1 * (x 0).val := h0
  exact h (Fin.ext (by omega))

omit [FloatOps F] in
/-- so storing one device's rows leaves another's as they were. -/
theorem read_write_other (d d' : Fin 16) (h : d' ≠ d) (f : (cc0_stg1_0 : Ref sig .tc).ty.Contents (Elt F))
    (w : Vec F S512x256 .f32) :
    (oM.access (rcQ d')).read (Elt F) ((oM.access (rcQ d)).write (Elt F) f w Finset.univ)
      = (oM.access (rcQ d')).read (Elt F) f := by
  funext x
  rw [View.read_apply, View.read_apply]
  rw [View.write_of_not_mem _ _ _ (rows_disjoint d d' h x)]

/-- Rows stored at an offset are the rows of the device there. -/
theorem write_rows (off : Fin 2 → ℕ) (h : ∀ a, off a + S512x256.size a ≤ S8192x256.size a) (d : Fin 16)
    (hd : off = ![512 * d.val, 0]) (f : (cc0_stg1_0 : Ref sig .tc).ty.Contents (Elt F)) (w : Vec F S512x256 .f32) :
    (oM.access (Rect.unit (s := S8192x256) off S512x256.size h)).write (Elt F) f w Finset.univ
      = (oM.access (rcQ d)).write (Elt F) f w Finset.univ := by
  subst hd; rfl
/-- A slot read at an offset is the slot there. -/
theorem read_slot (off : Fin 3 → ℕ) (h : ∀ a, off a + S1x512x256.size a ≤ S16x512x256.size a) (d : Fin 16)
    (hd : off = ![d.val, 0, 0]) (f : (cc0_scratch2 : Ref sig .tc).ty.Contents (Elt F)) :
    ((rM.access (Rect.unit (s := S16x512x256) off S1x512x256.size h)).read (Elt F) f : Vec F S1x512x256 .bf16)
      = (rM.access (rcY d)).read (Elt F) f := by
  subst hd; rfl
/-- What is loaded at the offset of a receive slot lies in that slot. -/
theorem set_slot (off : Fin 3 → ℕ) (h : ∀ a, off a + S1x512x256.size a ≤ S16x512x256.size a) (d : Fin 16)
    (hd : off = ![d.val, 0, 0]) :
    (rM.access (Rect.unit (s := S16x512x256) off S1x512x256.size h)).set ⊆ (qSl d).view.set := by
  subst hd; exact setQ d

/-- The device's own block, stored. -/
theorem wp_own (O : CellTallies nD τ sig Unit) (hO : Above 0 O) {k : KProg F} {Q : PUnit → sProp 𝕄} :
    iprop(recs m K ∗ levAts L lv ∗ busy c 15 ∗ xPts m c ∗ ow c O ∗ (∃ f, (c : Thread nD τ).loc cc0_stg1_0 ↦{fullShare} f))
      ⊢ iprop(((freeN c 18 ∗ dPts m c (tgt c 15) ∗ xPts m c ∗ ow c O ∗ oPts m c 0) -∗ WP c k Q)
          -∗ WP c (ownP c k) Q) := by
  iintro ⟨#HI, #Hl, Hb, Hx, Ho, ⟨%f, Hout⟩⟩ Hk
  unfold ownP
  iapply (wp_read m K c 15 O hO) $$ [Hb Hx Ho]
  · isplitr; · iexact HI
    isplitr; · iexact Hl
    isplitl [Hb]; · iexact Hb
    isplitl [Hx]; · iexact Hx
    iexact Ho
  iintro %w %hw ⟨Hfr, Hd, Hx, Ho⟩
  iapply (wp_load 𝒱₀ (c : Thread nD τ) none Set.univ (m := oM) (Finset.subset_univ _)) $$ Hout; iintro Hout
  iapply (wp_store 𝒱₀ (c : Thread nD τ) none Set.univ (m := oM) (r := rcOwn c) (Mk := Finset.univ) (Finset.subset_univ _)) $$ Hout
  iintro Hout
  iapply Hk
  isplitl [Hfr]; · iexact Hfr
  isplitl [Hd]; · iexact Hd
  isplitl [Hx]; · iexact Hx
  isplitl [Ho]; · iexact Ho
  unfold oPts
  iexists _
  isplitr
  rotate_left
  · iexact Hout
  · ipureintro
    refine ⟨?_, fun s h => absurd h (Nat.not_lt_zero _)⟩
    rw [write_rows _ _ c (k0_off4_eq c), View.read_write_univ]
    unfold partAt
    rw [if_pos rfl]
    show silu _ (shapeCast S8192x256 w _) = _
    rw [hw, tgt_last]
    rfl

/-- A received block, stored. -/
theorem wp_recv (s : Fin 15) {k : KProg F} {Q : PUnit → sProp 𝕄} :
    iprop(recs m K ∗ levAts L lv ∗ cred (tallyAt (recvCell c (srcD c s)) () NB) ∗ atPos ER (recvCell c (srcD c s)) 0 ∅ 0
        ∗ ow c 0 ∗ oPts m c s.val)
      ⊢ iprop(((atPos ER (recvCell c (srcD c s)) 1 ∅ 0 ∗ (∃ f, qPts c (srcD c s) f) ∗ ow c 0 ∗ oPts m c (s.val + 1)) -∗ WP c k Q)
          -∗ WP c (recvP c s k) Q) := by
  unfold ow oPts
  iintro ⟨#HI, #Hl, Hcr, Hat, ⟨%W, Ho⟩, ⟨%f, %hf, Hout⟩⟩ Hk
  ihave Hc := (recs_R m K c (srcD c s)) $$ HI
  icases Hc with ⟨#Hi, -⟩
  unfold recvP
  rw [gSem_eq]
  iapply (Rounds.wp_wait_rest_token 𝒱₀ ER (Rd m) (c : Thread nD τ) none (κ := K (c, kR (srcD c s)))
      (wpE_waitDma2_eq 𝒱₀ (c : Thread nD τ) none Set.univ) (Set.mem_univ _) () (O := 0) (W := W) (R := 0) (m := 0) (T := ∅)
      (by rw [Nat.zero_add]; exact (expect_recv m c _ (srcD_ne c s)).symm)) $$ [Hcr Ho Hat]
  · isplitr; · iexact Hi
    isplitl [Hcr]; · iexact Hcr
    isplitl [Ho]; · iexact Ho
    isplitr; · iapply (mayWait_of c _ 0 (Above.zero _) le_rfl); iexact Hl
    iexact Hat
  iintro ⟨Ho, Hat, -, Hp⟩
  ihave Hp := (Entails.of_eq (rest_recv m c _ (srcD_ne c s))) $$ Hp
  unfold recvPay qPts
  icases Hp with ⟨%g, %hg, Hq⟩
  iapply (wp_load_rect 𝒱₀ (c : Thread nD τ) none Set.univ (m := rM) (r := rcR' c s)
    (set_slot _ _ _ (off7_eq c s))) $$ Hq; iintro Hq
  iapply (wp_load 𝒱₀ (c : Thread nD τ) none Set.univ (m := oM) (Finset.subset_univ _)) $$ Hout; iintro Hout
  iapply (wp_store 𝒱₀ (c : Thread nD τ) none Set.univ (m := oM) (r := rcO c s) (Mk := Finset.univ) (Finset.subset_univ _)) $$ Hout
  iintro Hout
  iapply Hk
  isplitl [Hat]; · iexact Hat
  isplitl [Hq]; · iexists g; iexact Hq
  isplitl [Ho]; · iexists _; iexact Ho
  iexists _
  isplitr
  rotate_left
  · iexact Hout
  · ipureintro
    rw [write_rows _ _ _ (off8_eq c s)]
    refine ⟨by rw [read_write_other _ _ (srcD_ne c s).symm]; exact hf.1, fun s' h => ?_⟩
    by_cases hs : s' = s
    · subst hs
      rw [View.read_write_univ]
      unfold partAt
      rw [if_neg (srcD_ne c s'), ← hg]
      rw [read_slot _ _ _ (off7_eq c s')]
      rfl
    · rw [read_write_other _ _ fun h' => hs (srcD_inj c h')]
      exact hf.2 s' (by have : s'.val ≠ s.val := fun h => hs (Fin.ext h)
                        omega)

/-- The wait for a send to drain: its slot of the send buffer back. -/
theorem wp_drain (s : Fin 15) {k : KProg F} {Q : PUnit → sProp 𝕄} :
    iprop(recs m K ∗ levAts L lv ∗ cred (tallyAt (sendCell c s.castSucc) () NB) ∗ atPos ER (sendCell c s.castSucc) 0 ∅ 0 ∗ ow c 0)
      ⊢ iprop(((atPos ER (sendCell c s.castSucc) 1 ∅ 0 ∗ (∃ f, yPts c s.castSucc f) ∗ ow c 0) -∗ WP c k Q)
          -∗ WP c (drainP c s k) Q) := by
  unfold ow
  iintro ⟨#HI, #Hl, Hcr, Hat, ⟨%W, Ho⟩⟩ Hk
  ihave Hc := (recs_S m K c s.castSucc) $$ HI
  icases Hc with ⟨#Hi, -⟩
  unfold drainP
  rw [sSem_eq]
  iapply (Rounds.wp_wait_rest_token 𝒱₀ ER (Rd m) (c : Thread nD τ) none (κ := K (c, kS s.castSucc))
      (wpE_waitDma2_eq 𝒱₀ (c : Thread nD τ) none Set.univ) (Set.mem_univ _) () (O := 0) (W := W) (R := 0) (m := 0) (T := ∅)
      (by rw [Nat.zero_add]; exact (expect_send m c s).symm)) $$ [Hcr Ho Hat]
  · isplitr; · iexact Hi
    isplitl [Hcr]; · iexact Hcr
    isplitl [Ho]; · iexact Ho
    isplitr; · iapply (mayWait_of c _ 0 (Above.zero _) le_rfl); iexact Hl
    iexact Hat
  iintro ⟨Ho, Hat, -, Hp⟩
  ihave Hp := (Entails.of_eq (rest_send m c s)) $$ Hp
  iapply Hk
  isplitl [Hat]; · iexact Hat
  isplitl [Hp]; · iexact Hp
  iexists _; iexact Ho

end Cert.Exchange

end
-- ==== Proof.Rows.lean ====
/-
Runs of pieces: the signals, the fifteen steps, the receives, the drains, each from what its members hold in a row.
-/
module

public import proofs.«01_k».proof.Proof.Transfers

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 36 → ℕ) (c : Dev nD)

/-- Pieces in a row, each taking what the one before left. -/
theorem wp_seq {N : ℕ} (f : Fin N → KProg F → KProg F) (R : sProp 𝕄) [BI.Persistent R] (I : ℕ → sProp 𝕄)
    (hf : ∀ (s : Fin N) (k : KProg F) (Q : PUnit → sProp 𝕄),
      iprop(R ∗ I s.val) ⊢ iprop((I (s.val + 1) -∗ WP c k Q) -∗ WP c (f s k) Q)) :
    ∀ (n a : ℕ) (h : a + n ≤ N) (k : KProg F) (Q : PUnit → sProp 𝕄),
      iprop(R ∗ I a) ⊢ iprop((I (a + n) -∗ WP c k Q) -∗ WP c (seqP f n a h k) Q)
  | 0, a, h, k, Q => by
    iintro ⟨-, Hi⟩ Hk
    iapply Hk
    iexact Hi
  | n + 1, a, h, k, Q => by
    iintro ⟨#HR, Hi⟩ Hk
    unfold seqP
    iapply (hf ⟨a, _⟩ (seqP f n (a + 1) _ k) Q) $$ [Hi]
    · isplitr; · iexact HR
      iexact Hi
    iintro Hi
    iapply (wp_seq f R I hf n (a + 1) _ k Q) $$ [Hi]
    · isplitr; · iexact HR
      iexact Hi
    rw [show a + 1 + n = a + (n + 1) by omega]
    iexact Hk

/-- The cells' invariants and the levels. -/
abbrev facts : sProp 𝕄 := iprop(recs m K ∗ levAts L lv)

/-! ## Signals -/

/-- The barrier duties to pay, with the slots to hand over. -/
def Mg (n : ℕ) : sProp 𝕄 :=
  mix n (fun t : Fin 15 => iprop(dutyTok ER (barCell (gdev c t)) 0 c ∗ ∃ f, qPts (F := F) c (gdev c t) f)) fun _ => iprop(emp)

/-- Signal `t`: a slot is lent and one debt is paid. -/
theorem row_sig (t : Fin 15) (k : KProg F) (Q : PUnit → sProp 𝕄) :
    iprop(facts m K ∗ (Mg c t.val ∗ ow c (oS c 0 + oB c t.val)))
      ⊢ iprop(((Mg c (t.val + 1) ∗ ow c (oS c 0 + oB c (t.val + 1))) -∗ WP c k Q) -∗ WP c (sigP c t k) Q) := by
  unfold Mg
  rw [mix_take, mix_put]
  iintro ⟨⟨#HI, -⟩, ⟨⟨Ht, Hq⟩, HR⟩, Ho⟩ Hk
  iapply (wp_sig m K c t (oS c 0)) $$ [Ht Hq Ho]
  · isplitr; · iexact HI
    isplitl [Ho]; · iexact Ho
    isplitl [Ht]; · iexact Ht
    iexact Hq
  iintro Ho
  iapply Hk
  isplitl [HR]
  · isplitr; · iempintro
    iexact HR
  iexact Ho

/-! ## Steps -/

/-- The fetches to start: their duties and columns. -/
def Mf (n : ℕ) : sProp 𝕄 :=
  mix n (fun s : Fin 16 => iprop(dutyTok ER (copyCell c (wof s)) (s.val / 3) c ∗ dPts m c (tgt c s))) fun _ => iprop(emp)
/-- The columns back. -/
def Mr (n : ℕ) : sProp 𝕄 :=
  mix n (fun _ : Fin 16 => iprop(emp)) fun s => dPts m c (tgt c s)
/-- The blocks to send: a slot and the two duties each; those sent: credit on the send cell. -/
def Mt (n : ℕ) : sProp 𝕄 :=
  mix n (fun s : Fin 15 => iprop((∃ f, yPts (F := F) c s.castSucc f) ∗ dutyTok ER (sendCell c s.castSucc) 0 c
      ∗ dutyTok ER (recvCell (tgt c s.castSucc) c) 0 c))
    fun s => cred (tallyAt (sendCell c s.castSucc) () NB)
/-- The slots to land in. -/
def Ml (n : ℕ) : sProp 𝕄 :=
  mix n (fun s : Fin 15 => iprop(∃ f, qPts (F := F) (tgt c s.castSucc) c f)) fun _ => iprop(emp)
/-- The blocks to send, the one of step `s` in its slot. -/
def Mt' (s : Fin 15) : sProp 𝕄 :=
  iprop((yFull m c s.castSucc ∗ dutyTok ER (sendCell c s.castSucc) 0 c ∗ dutyTok ER (recvCell (tgt c s.castSucc) c) 0 c)
    ∗ mixRest s (fun s : Fin 15 => iprop((∃ f, yPts (F := F) c s.castSucc f) ∗ dutyTok ER (sendCell c s.castSucc) 0 c
      ∗ dutyTok ER (recvCell (tgt c s.castSucc) c) 0 c))
    fun s => cred (tallyAt (sendCell c s.castSucc) () NB))
/-- Step `n`'s fetch under way. -/
def busyN (n : ℕ) : sProp 𝕄 := busy (F := F) c (f16 n)
omit [FloatOps F] in
/-- A fetch under way, by its number. -/
theorem busyN_val (s : Fin 16) : busyN (F := F) c s.val = busy c s := by unfold busyN; rw [f16_val]

/-- Fetch `s` is started from a free buffer. -/
theorem row_fetch (s : Fin 16) (k : KProg F) (Q : PUnit → sProp 𝕄) :
    iprop(facts m K ∗ freeN c s.val ∗ Mf m c s.val)
      ⊢ iprop(((busyN c s.val ∗ Mf m c (s.val + 1)) -∗ WP c k Q) -∗ WP c (fetchP c s k) Q) := by
  unfold Mf
  rw [mix_take, mix_put, busyN_val]
  iintro ⟨⟨#HI, -⟩, Hf, ⟨Ht, Hd⟩, HR⟩ Hk
  iapply (wp_fetch m K c s) $$ [Hf Ht Hd]
  · isplitr; · iexact HI
    isplitl [Hf]; · iexact Hf
    isplitl [Ht]; · iexact Ht
    iexact Hd
  iintro Hb
  iapply Hk
  isplitl [Hb]; · iexact Hb
  isplitr; · iempintro
  iexact HR

/-- Block `s` is computed into its send slot, and its fetch buffer is free again. -/
theorem row_comp (s : Fin 15) (O : CellTallies nD τ sig Unit) (hO : Above 0 O) (k : KProg F) (Q : PUnit → sProp 𝕄) :
    iprop(facts m K ∗ busyN c s.val ∗ Mr m c s.val ∗ Mt c s.val ∗ xPts m c ∗ ow c O)
      ⊢ iprop(((freeN c (s.val + 3) ∗ Mr m c (s.val + 1) ∗ Mt' m c s ∗ xPts m c ∗ ow c O) -∗ WP c k Q)
          -∗ WP c (compP c s.castSucc k) Q) := by
  unfold Mr Mt Mt'
  rw [show s.val = (s.castSucc).val from rfl, mix_take s.castSucc, mix_put s.castSucc, busyN_val,
    show (s.castSucc).val = s.val from rfl, mix_take s]
  iintro ⟨⟨#HI, #Hl⟩, Hb, ⟨-, HR⟩, ⟨⟨Hy, Ht⟩, HT⟩, Hx, Ho⟩ Hk
  iapply (wp_comp m K c s.castSucc O hO) $$ [Hb Hy Hx Ho]
  · isplitr; · iexact HI
    isplitr; · iexact Hl
    isplitl [Hb]; · iexact Hb
    isplitl [Hy]; · iexact Hy
    isplitl [Hx]; · iexact Hx
    iexact Ho
  iintro ⟨Hf, Hd, Hy, Hx, Ho⟩
  iapply Hk
  isplitl [Hf]; · iexact Hf
  isplitl [Hd HR]
  · isplitl [Hd]; · iexact Hd
    iexact HR
  isplitl [Hy Ht HT]
  · isplitl [Hy Ht]
    · isplitl [Hy]; · iexact Hy
      iexact Ht
    iexact HT
  isplitl [Hx]; · iexact Hx
  iexact Ho

/-- Block `s` is sent. -/
theorem row_send (s : Fin 15) (k : KProg F) (Q : PUnit → sProp 𝕄) :
    iprop(facts m K ∗ Mt' m c s ∗ Ml c s.val ∗ ow c (oS c s.val))
      ⊢ iprop(((Mt c (s.val + 1) ∗ Ml c (s.val + 1) ∗ ow c (oS c (s.val + 1))) -∗ WP c k Q) -∗ WP c (sendP c s k) Q) := by
  unfold Mt Mt' Ml
  rw [mix_take, mix_put, mix_put]
  iintro ⟨⟨#HI, #Hl⟩, ⟨⟨Hy, Ht₁, Ht₂⟩, HT⟩, ⟨Hq, HL⟩, Ho⟩ Hk
  iapply (wp_send m K c s) $$ [Hy Ht₁ Ht₂ Hq Ho]
  · isplitr; · iexact HI
    isplitl [Hy]; · iexact Hy
    isplitl [Hq]; · iexact Hq
    isplitl [Ho]; · iexact Ho
    isplitl [Ht₁]; · iexact Ht₁
    iexact Ht₂
  iintro ⟨Hc, Ho⟩
  iapply Hk
  isplitl [Hc HT]
  · isplitl [Hc]; · iexact Hc
    iexact HT
  isplitl [HL]
  · isplitr; · iempintro
    iexact HL
  iexact Ho

/-- Before step `n`: its fetch and the next under way, the third slot free. -/
def St (n : ℕ) : sProp 𝕄 :=
  iprop(Mf m c (n + 2) ∗ Mr m c n ∗ busyN c n ∗ busyN c (n + 1) ∗ freeN c (n + 2) ∗ Mt c n ∗ Ml c n ∗ xPts m c ∗ ow c (oS c n))

/-- One whole step: the fetch ahead, the block, the send. -/
theorem row_step (s : Fin 14) (k : KProg F) (Q : PUnit → sProp 𝕄) :
    iprop(facts m K ∗ St m c s.val) ⊢ iprop((St m c (s.val + 1) -∗ WP c k Q) -∗ WP c (stepP c s k) Q) := by
  have hs : s.val < 15 := by omega
  unfold St stepP
  iintro ⟨#HI, HF, HR, Hb, Hb', Hfr, HT, HL, Hx, Ho⟩ Hk
  iapply (row_fetch m K c ⟨s.val + 2, _⟩) $$ [Hfr HF]
  · isplitr; · iexact HI
    isplitl [Hfr]; · iexact Hfr
    iexact HF
  iintro ⟨Hb'', HF⟩
  iapply (row_comp m K c ⟨s.val, hs⟩ (oS c s.val) ((above_oS c _).mono (by decide))) $$ [Hb HR HT Hx Ho]
  · isplitr; · iexact HI
    isplitl [Hb]; · iexact Hb
    isplitl [HR]; · iexact HR
    isplitl [HT]; · iexact HT
    isplitl [Hx]; · iexact Hx
    iexact Ho
  iintro ⟨Hfr, HR, HT, Hx, Ho⟩
  iapply (row_send m K c ⟨s.val, hs⟩) $$ [HT HL Ho]
  · isplitr; · iexact HI
    isplitl [HT]; · iexact HT
    isplitl [HL]; · iexact HL
    iexact Ho
  iintro ⟨HT, HL, Ho⟩
  iapply Hk
  rw [show s.val + 1 + 2 = s.val + 2 + 1 by omega]
  isplitl [HF]; · iexact HF
  isplitl [HR]; · iexact HR
  isplitl [Hb']; · iexact Hb'
  isplitl [Hb'']; · iexact Hb''
  isplitl [Hfr]; · iexact Hfr
  isplitl [HT]; · iexact HT
  isplitl [HL]; · iexact HL
  isplitl [Hx]; · iexact Hx
  iexact Ho

/-! ## Receives -/

/-- The receives to make, and those made. -/
def Mv (n : ℕ) : sProp 𝕄 :=
  mix n (fun s : Fin 15 => iprop(cred (tallyAt (recvCell c (srcD c s)) () NB) ∗ atPos ER (recvCell c (srcD c s)) 0 ∅ 0))
    fun s => iprop(atPos ER (recvCell c (srcD c s)) 1 ∅ 0 ∗ ∃ f, qPts (F := F) c (srcD c s) f)

/-- The block of source `s` is received and stored. -/
theorem row_recv (s : Fin 15) (k : KProg F) (Q : PUnit → sProp 𝕄) :
    iprop(facts m K ∗ (Mv c s.val ∗ ow c 0 ∗ oPts m c s.val))
      ⊢ iprop(((Mv c (s.val + 1) ∗ ow c 0 ∗ oPts m c (s.val + 1)) -∗ WP c k Q) -∗ WP c (recvP c s k) Q) := by
  unfold Mv
  rw [mix_take, mix_put]
  iintro ⟨⟨#HI, #Hl⟩, ⟨⟨Hc, Hat⟩, HR⟩, Ho, Hout⟩ Hk
  iapply (wp_recv m K c s) $$ [Hc Hat Ho Hout]
  · isplitr; · iexact HI
    isplitr; · iexact Hl
    isplitl [Hc]; · iexact Hc
    isplitl [Hat]; · iexact Hat
    isplitl [Ho]; · iexact Ho
    iexact Hout
  iintro ⟨Hat, Hq, Ho, Hout⟩
  iapply Hk
  isplitl [Hat Hq HR]
  · isplitl [Hat Hq]
    · isplitl [Hat]; · iexact Hat
      iexact Hq
    iexact HR
  isplitl [Ho]; · iexact Ho
  iexact Hout

/-! ## Drains -/

/-- The drains to wait for, and those done. -/
def Md (n : ℕ) : sProp 𝕄 :=
  mix n (fun s : Fin 15 => iprop(cred (tallyAt (sendCell c s.castSucc) () NB) ∗ atPos ER (sendCell c s.castSucc) 0 ∅ 0))
    fun s => iprop(atPos ER (sendCell c s.castSucc) 1 ∅ 0 ∗ ∃ f, yPts (F := F) c s.castSucc f)

/-- Send `s` is waited for. -/
theorem row_drain (s : Fin 15) (k : KProg F) (Q : PUnit → sProp 𝕄) :
    iprop(facts m K ∗ (Md c s.val ∗ ow c 0))
      ⊢ iprop(((Md c (s.val + 1) ∗ ow c 0) -∗ WP c k Q) -∗ WP c (drainP c s k) Q) := by
  unfold Md
  rw [mix_take, mix_put]
  iintro ⟨⟨#HI, #Hl⟩, ⟨⟨Hc, Hat⟩, HR⟩, Ho⟩ Hk
  iapply (wp_drain m K c s) $$ [Hc Hat Ho]
  · isplitr; · iexact HI
    isplitr; · iexact Hl
    isplitl [Hc]; · iexact Hc
    isplitl [Hat]; · iexact Hat
    iexact Ho
  iintro ⟨Hat, Hy, Ho⟩
  iapply Hk
  isplitl [Hat Hy HR]
  · isplitl [Hat Hy]
    · isplitl [Hat]; · iexact Hat
      iexact Hy
    iexact HR
  iexact Ho

end Cert.Exchange

end
-- ==== Proof.Run.lean ====
/-
The whole body on one device, from its share of the protocol to its result, with the buffers in pieces.
-/
module

public import proofs.«01_k».proof.Proof.Rows

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 36 → ℕ) (c : Dev nD)

/-- What a device's body holds of the protocol at its start. -/
def tools : sProp 𝕄 :=
  iprop(cred (tallyAt (barCell c) () 15)
    ∗ (bigSep Finset.univ fun s : Fin 15 => cred (tallyAt (recvCell c (srcD c s)) () NB))
    ∗ (bigSep Finset.univ fun j : Fin 3 => atPos ER (copyCell c j) 0 ∅ 0)
    ∗ (bigSep Finset.univ fun s : Fin 16 => atPos ER (sendCell c s) 0 ∅ 0)
    ∗ (bigSep Finset.univ fun d : Fin 16 => atPos ER (recvCell c d) 0 ∅ 0)
    ∗ atPos ER (barCell c) 0 ∅ 0
    ∗ (bigSep Finset.univ fun t : Fin 15 => dutyTok ER (barCell (gdev c t)) 0 c)
    ∗ (bigSep Finset.univ fun s : Fin 15 => dutyTok ER (sendCell c s.castSucc) 0 c)
    ∗ (bigSep Finset.univ fun s : Fin 15 => dutyTok ER (recvCell (tgt c s.castSucc) c) 0 c)
    ∗ (bigSep Finset.univ fun s : Fin 16 => dutyTok ER (copyCell c (wof s)) (s.val / 3) c))

/-- Its buffers, in pieces. -/
def pieces : sProp 𝕄 :=
  iprop((bigSep Finset.univ fun j : Fin 3 => iprop(∃ f, wPts (F := F) c j f))
    ∗ (bigSep Finset.univ fun s : Fin 16 => iprop(∃ f, yPts (F := F) c s f))
    ∗ (bigSep Finset.univ fun d : Fin 16 => iprop(∃ f, qPts (F := F) c d f))
    ∗ (bigSep Finset.univ fun s : Fin 16 => dPts m c (tgt c s)))

/-- Its cells, closed. -/
def closed0 : sProp 𝕄 :=
  iprop((bigSep Finset.univ fun j : Fin 3 => semVal (copyCell c j) 0)
    ∗ (bigSep Finset.univ fun s : Fin 16 => semVal (sendCell c s) 0)
    ∗ (bigSep Finset.univ fun d : Fin 16 => semVal (recvCell c d) 0)
    ∗ semVal (barCell c) 0)

omit [FloatOps F] in
/-- What is held of each of three is held of the three. -/
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- Fifteen and the last. -/
theorem bigSep_last (Φ : Fin 16 → sProp 𝕄) :
    bigSep Finset.univ Φ = iprop(Φ 15 ∗ bigSep Finset.univ fun s : Fin 15 => Φ s.castSucc) := by
  rw [bigSep_univ_at Φ 15, bigSep_erase_enum (Fin.castSucc : Fin 15 → Fin 16) (Fin.castSucc_injective 15) 15
    (fun s h => by have := congrArg Fin.val h; have h' := s.isLt; simp at this; omega) (by rfl)]
omit [FloatOps F] in
/-- A device's own and those of the signalled; -/
theorem bigSep_gdev (Φ : Fin 16 → sProp 𝕄) :
    bigSep Finset.univ Φ = iprop(Φ c ∗ bigSep Finset.univ fun t : Fin 15 => Φ (gdev c t)) := by
  rw [bigSep_univ_at Φ c, bigSep_erase_enum (gdev c) (gdev_inj c) c (gdev_ne c) (by rfl)]
omit [FloatOps F] in
/-- a device's own and those of the sources; -/
theorem bigSep_srcD (Φ : Fin 16 → sProp 𝕄) :
    bigSep Finset.univ Φ = iprop(Φ c ∗ bigSep Finset.univ fun s : Fin 15 => Φ (srcD c s)) := by
  rw [bigSep_univ_at Φ c, bigSep_erase_enum (srcD c) (srcD_inj c) c (srcD_ne c) (by rfl)]
omit [FloatOps F] in
/-- all others', by the steps. -/
theorem bigSep_tgt (Φ : Fin 16 → sProp 𝕄) :
    bigSep (Finset.univ.erase c) Φ = bigSep Finset.univ fun s : Fin 15 => Φ (tgt c s.castSucc) :=
  bigSep_erase_enum (fun s : Fin 15 => tgt c s.castSucc)
    (fun a b h => Fin.castSucc_injective 15 (tgt_inj c h)) c (tgt_ne c) (by rfl) Φ

/-! ## The first and the last state of the weights buffer -/

/-- At the start the three fetch buffers are free. -/
theorem free_start :
    iprop(recs m K ∗ (bigSep Finset.univ fun j : Fin 3 => iprop(∃ f, wPts (F := F) c j f))
        ∗ bigSep Finset.univ fun j : Fin 3 => atPos ER (copyCell c j) 0 ∅ 0)
      ⊢ iprop(freeN c 0 ∗ freeN c 1 ∗ freeN c 2) := by
  rw [bigSep_three, bigSep_three]
  unfold freeN
  iintro ⟨#HI, ⟨H0, H1, H2⟩, A0, A1, A2⟩
  ihave R0 := (recs_C m K c 0) $$ HI
  ihave R1 := (recs_C m K c 1) $$ HI
  ihave R2 := (recs_C m K c 2) $$ HI
  icases R0 with ⟨-, #R0⟩
  icases R1 with ⟨-, #R1⟩
  icases R2 with ⟨-, #R2⟩
  isplitl [H0 A0]
  · isplitl [H0]; · iexact H0
    isplitl [A0]; · iexact A0
    iexact R0
  isplitl [H1 A1]
  · isplitl [H1]; · iexact H1
    isplitl [A1]; · iexact A1
    iexact R1
  isplitl [H2]; · iexact H2
  isplitl [A2]; · iexact A2
  iexact R2

/-- A semaphore that nobody pays any more is at zero: -/
theorem close_at (κ : ℕ) (g : GSem nD τ sig) (R : ℕ) (h : ∀ r, R ≤ r → (Rd (F := F) m).duties g r = ∅) :
    iprop(cellInv ER (Rd m) κ g ∗ atPos ER g R ∅ 0) ⊢ (|={Set.univ}=> semVal g 0 : sProp 𝕄) :=
  Rounds.cell_close ER (Rd m) (Set.mem_univ κ) (fun h => h) h

/-- a fetch buffer's, -/
theorem close_copy (j : Fin 3) (R : ℕ) (h : 16 ≤ 3 * R + j.val) :
    iprop(recs m K ∗ atPos ER (copyCell c j) R ∅ 0) ⊢ (|={Set.univ}=> semVal (copyCell c j) 0 : sProp 𝕄) := by
  iintro ⟨#HI, H⟩
  ihave Hc := (recs_C m K c j) $$ HI
  icases Hc with ⟨#Hi, -⟩
  iapply (close_at m (K (c, kC j)) (copyCell c j) R fun r hr => later_copy m c j r (by omega))
  isplitr; · iexact Hi
  iexact H
/-- a send's, -/
theorem close_send (s : Fin 16) (R : ℕ) (h : 1 ≤ R ∨ s = 15) :
    iprop(recs m K ∗ atPos ER (sendCell c s) R ∅ 0) ⊢ (|={Set.univ}=> semVal (sendCell c s) 0 : sProp 𝕄) := by
  iintro ⟨#HI, H⟩
  ihave Hc := (recs_S m K c s) $$ HI
  icases Hc with ⟨#Hi, -⟩
  iapply (close_at m (K (c, kS s)) (sendCell c s) R fun r hr => later_send m c s r (h.imp_left fun h => h.trans hr))
  isplitr; · iexact Hi
  iexact H
/-- a receive's, -/
theorem close_recv (d : Fin 16) (R : ℕ) (h : 1 ≤ R ∨ d = c) :
    iprop(recs m K ∗ atPos ER (recvCell c d) R ∅ 0) ⊢ (|={Set.univ}=> semVal (recvCell c d) 0 : sProp 𝕄) := by
  iintro ⟨#HI, H⟩
  ihave Hc := (recs_R m K c d) $$ HI
  icases Hc with ⟨#Hi, -⟩
  iapply (close_at m (K (c, kR d)) (recvCell c d) R fun r hr => later_recv m c d r (h.imp_left fun h => h.trans hr))
  isplitr; · iexact Hi
  iexact H
/-- the barrier. -/
theorem close_bar (R : ℕ) (h : 1 ≤ R) :
    iprop(recs m K ∗ atPos ER (barCell c) R ∅ 0) ⊢ (|={Set.univ}=> semVal (barCell c) 0 : sProp 𝕄) := by
  iintro ⟨#HI, H⟩
  ihave Hc := (recs_B m K c) $$ HI
  icases Hc with ⟨#Hi, -⟩
  iapply (close_at m (K (c, kB)) (barCell c) R fun r hr => later_bar m c r (h.trans hr))
  isplitr; · iexact Hi
  iexact H

omit [FloatOps F] in
/-- A family closes by its members. -/
theorem close_all {N : ℕ} {R : sProp 𝕄} [BI.Persistent R] {Φ Ψ : Fin N → sProp 𝕄}
    (h : ∀ i, iprop(R ∗ Φ i) ⊢ (|={Set.univ}=> Ψ i : sProp 𝕄)) :
    iprop(R ∗ bigSep Finset.univ Φ) ⊢ (|={Set.univ}=> bigSep Finset.univ Ψ : sProp 𝕄) :=
  (BI.bigSep_with_persistent fun i _ => h i).trans (bigSep_fupd _ _)

/-- The weights buffer's slots at the end, closed. -/
theorem free_end :
    iprop(recs m K ∗ freeN c 16 ∗ freeN c 17 ∗ freeN c 18)
      ⊢ (|={Set.univ}=> iprop((bigSep Finset.univ fun j : Fin 3 => iprop(∃ f, wPts (F := F) c j f))
          ∗ bigSep Finset.univ fun j : Fin 3 => semVal (copyCell c j) 0) : sProp 𝕄) := by
  rw [bigSep_three, bigSep_three]
  unfold freeN
  iintro ⟨#HI, ⟨H1, A1, -⟩, ⟨H2, A2, -⟩, H0, A0, -⟩
  imod (close_copy m K c 0 6 (by decide)) $$ [A0] with V0
  · isplitr; · iexact HI
    iexact A0
  imod (close_copy m K c 1 5 (by decide)) $$ [A1] with V1
  · isplitr; · iexact HI
    iexact A1
  imod (close_copy m K c 2 5 (by decide)) $$ [A2] with V2
  · isplitr; · iexact HI
    iexact A2
  imodintro
  isplitl [H0 H1 H2]
  · isplitl [H0]; · iexact H0
    isplitl [H1]; · iexact H1
    iexact H2
  isplitl [V0]; · iexact V0
  isplitl [V1]; · iexact V1
  iexact V2

/-- The receive cells and slots at the end, closed. -/
theorem recv_end :
    iprop(recs m K ∗ Mv c 15 ∗ atPos ER (recvCell c c) 0 ∅ 0 ∗ (∃ f, qPts (F := F) c c f))
      ⊢ (|={Set.univ}=> iprop((bigSep Finset.univ fun d : Fin 16 => iprop(∃ f, qPts (F := F) c d f))
          ∗ bigSep Finset.univ fun d : Fin 16 => semVal (recvCell c d) 0) : sProp 𝕄) := by
  unfold Mv
  rw [mix_end 15 le_rfl, bigSep_sep', bigSep_srcD c (fun d : Fin 16 => iprop(∃ f, qPts (F := F) c d f)),
    bigSep_srcD c (fun d : Fin 16 => (semVal (recvCell c d) 0 : sProp 𝕄))]
  iintro ⟨#HI, ⟨Ha, Hq⟩, A, Q⟩
  imod (close_recv m K c c 0 (Or.inr rfl)) $$ [A] with V
  · isplitr; · iexact HI
    iexact A
  imod (close_all (R := recs m K) fun s : Fin 15 => close_recv m K c (srcD c s) 1 (Or.inl le_rfl)) $$ [Ha] with Vs
  · isplitr; · iexact HI
    iexact Ha
  imodintro
  isplitl [Q Hq]
  · isplitl [Q]; · iexact Q
    iexact Hq
  isplitl [V]; · iexact V
  iexact Vs

/-- The send cells and slots at the end, closed. -/
theorem send_end :
    iprop(recs m K ∗ Md c 15 ∗ atPos ER (sendCell c 15) 0 ∅ 0 ∗ (∃ f, yPts (F := F) c 15 f))
      ⊢ (|={Set.univ}=> iprop((bigSep Finset.univ fun s : Fin 16 => iprop(∃ f, yPts (F := F) c s f))
          ∗ bigSep Finset.univ fun s : Fin 16 => semVal (sendCell c s) 0) : sProp 𝕄) := by
  unfold Md
  rw [mix_end 15 le_rfl, bigSep_sep', bigSep_last (fun s : Fin 16 => iprop(∃ f, yPts (F := F) c s f)),
    bigSep_last (fun s : Fin 16 => (semVal (sendCell c s) 0 : sProp 𝕄))]
  iintro ⟨#HI, ⟨Ha, Hq⟩, A, Q⟩
  imod (close_send m K c 15 0 (Or.inr rfl)) $$ [A] with V
  · isplitr; · iexact HI
    iexact A
  imod (close_all (R := recs m K) fun s : Fin 15 => close_send m K c s.castSucc 1 (Or.inl le_rfl)) $$ [Ha] with Vs
  · isplitr; · iexact HI
    iexact Ha
  imodintro
  isplitl [Q Hq]
  · isplitl [Q]; · iexact Q
    iexact Hq
  isplitl [V]; · iexact V
  iexact Vs

/-- No columns are back before the first block. -/
theorem Mr_zero : Mr m c 0 = iprop(emp) := (mix_zero _ _).trans (bigSep_emp_const _)

/-! ## The body -/

/-- The body of device `c`: from its tools, its buffers in pieces, its rows and everything it owes, to its columns of the
    result, its cells closed, nothing owed. -/
theorem run_pieces (Q : PUnit → sProp 𝕄) :
    iprop(facts m K ∗ tools c ∗ pieces m c ∗ xPts m c ∗ (∃ f, (c : Thread nD τ).loc cc0_stg1_0 ↦{fullShare} f) ∗ ow c (O₀ c))
      ⊢ iprop(((pieces m c ∗ closed0 c ∗ xPts m c ∗ oPts m c 15 ∗ ow c 0) -∗ Q ⟨⟩) -∗ WP c (bodyP c) Q) := by
  unfold tools pieces closed0
  rw [bigSep_last (fun s : Fin 16 => iprop(∃ f, yPts (F := F) c s f)), bigSep_gdev c (fun d : Fin 16 => iprop(∃ f, qPts (F := F) c d f))]
  iintro ⟨#HI, ⟨HcB, HcV, AC, AS, AV, AB, TB, TS, TV, TC⟩, ⟨HW, ⟨HY15, HY⟩, ⟨HQc, HQ⟩, HD⟩, Hx, Hout, Ho⟩ Hk
  icases HI with ⟨#HI, #Hl⟩
  unfold bodyP
  -- the three slots of the weights buffer
  ihave HF := (free_start m K c) $$ [HW AC]
  · isplitr; · iexact HI
    isplitl [HW]; · iexact HW
    iexact AC
  icases HF with ⟨F0, F1, F2⟩
  -- the first two fetches
  ihave Mf0 := (Entails.of_eq (show iprop((bigSep Finset.univ fun s : Fin 16 => dutyTok ER (copyCell c (wof s)) (s.val / 3) c)
      ∗ bigSep Finset.univ fun s : Fin 16 => dPts m c (tgt c s)) = Mf m c 0 by unfold Mf; rw [mix_zero, bigSep_sep'])) $$ [TC HD]
  · isplitl [TC]; · iexact TC
    iexact HD
  iapply (row_fetch m K c 0) $$ [F0 Mf0]
  · isplitr
    · isplitl; · iexact HI
      iexact Hl
    isplitl [F0]; · iexact F0
    iexact Mf0
  iintro ⟨B0, Mf0⟩
  iapply (row_fetch m K c 1) $$ [F1 Mf0]
  · isplitr
    · isplitl; · iexact HI
      iexact Hl
    isplitl [F1]; · iexact F1
    iexact Mf0
  iintro ⟨B1, Mf0⟩
  -- the signals
  ihave Mg0 := (Entails.of_eq (show iprop((bigSep Finset.univ fun t : Fin 15 => dutyTok ER (barCell (gdev c t)) 0 c)
      ∗ bigSep Finset.univ fun t : Fin 15 => iprop(∃ f, qPts (F := F) c (gdev c t) f)) = Mg c 0 by unfold Mg; rw [mix_zero, bigSep_sep'])) $$ [TB HQ]
  · isplitl [TB]; · iexact TB
    iexact HQ
  iapply (wp_seq c (sigP c) (facts m K) (fun n => iprop(Mg c n ∗ ow c (oS c 0 + oB c n))) (row_sig m K c) 15 0 _) $$ [Mg0 Ho]
  · isplitr
    · isplitl; · iexact HI
      iexact Hl
    isplitl [Mg0]; · iexact Mg0
    iexact Ho
  iintro ⟨-, Ho⟩
  rw [Nat.zero_add, oB_end, add_zero]
  -- the third fetch, the first block
  iapply (row_fetch m K c 2) $$ [F2 Mf0]
  · isplitr
    · isplitl; · iexact HI
      iexact Hl
    isplitl [F2]; · iexact F2
    iexact Mf0
  iintro ⟨B2, Mf0⟩
  ihave Mt0 := (Entails.of_eq (show iprop((bigSep Finset.univ fun s : Fin 15 => iprop(∃ f, yPts (F := F) c s.castSucc f))
      ∗ (bigSep Finset.univ fun s : Fin 15 => dutyTok ER (sendCell c s.castSucc) 0 c)
      ∗ bigSep Finset.univ fun s : Fin 15 => dutyTok ER (recvCell (tgt c s.castSucc) c) 0 c) = Mt c 0 by
        unfold Mt; rw [mix_zero, bigSep_sep', bigSep_sep'])) $$ [HY TS TV]
  · isplitl [HY]; · iexact HY
    isplitl [TS]; · iexact TS
    iexact TV
  iapply (row_comp m K c 0 (oS c 0) ((above_oS c 0).mono (by decide))) $$ [B0 Mt0 Hx Ho]
  · isplitr
    · isplitl; · iexact HI
      iexact Hl
    isplitl [B0]; · iexact B0
    isplitr
    · iapply (Entails.of_eq (Mr_zero m c).symm); iempintro
    isplitl [Mt0]; · iexact Mt0
    isplitl [Hx]; · iexact Hx
    iexact Ho
  iintro ⟨F3, Mr1, Mt0, Hx, Ho⟩
  -- the barrier
  iapply (wp_bar m K c (oS c 0) (above_oS c 0)) $$ [HcB Ho AB]
  · isplitr; · iexact HI
    isplitr; · iexact Hl
    isplitl [HcB]; · iexact HcB
    isplitl [Ho]; · iexact Ho
    iexact AB
  iintro ⟨Ho, AB, HL⟩
  ihave Ml0 := (Entails.of_eq (show (bigSep (Finset.univ.erase c) fun d => iprop(∃ f, qPts (F := F) d c f)) = Ml c 0 by
    unfold Ml; rw [mix_zero]; exact bigSep_tgt c fun d => iprop(∃ f, qPts (F := F) d c f))) $$ HL
  -- the first send
  iapply (row_send m K c 0) $$ [Mt0 Ml0 Ho]
  · isplitr
    · isplitl; · iexact HI
      iexact Hl
    isplitl [Mt0]; · iexact Mt0
    isplitl [Ml0]; · iexact Ml0
    iexact Ho
  iintro ⟨Mt0, Ml0, Ho⟩
  -- the steps between
  iapply (wp_seq c (stepP c) (facts m K) (St m c) (row_step m K c) 13 1 _) $$ [Mf0 Mr1 B1 B2 F3 Mt0 Ml0 Hx Ho]
  · isplitr
    · isplitl; · iexact HI
      iexact Hl
    unfold St
    isplitl [Mf0]; · iexact Mf0
    isplitl [Mr1]; · iexact Mr1
    isplitl [B1]; · iexact B1
    isplitl [B2]; · iexact B2
    isplitl [F3]; · iexact F3
    isplitl [Mt0]; · iexact Mt0
    isplitl [Ml0]; · iexact Ml0
    isplitl [Hx]; · iexact Hx
    iexact Ho
  unfold St
  iintro ⟨-, Mr0, B14, B15, F16, Mt0, Ml0, Hx, Ho⟩
  -- the last block sent
  iapply (row_comp m K c 14 (oS c 14) ((above_oS c 14).mono (by decide))) $$ [B14 Mr0 Mt0 Hx Ho]
  · isplitr
    · isplitl; · iexact HI
      iexact Hl
    isplitl [B14]; · iexact B14
    isplitl [Mr0]; · iexact Mr0
    isplitl [Mt0]; · iexact Mt0
    isplitl [Hx]; · iexact Hx
    iexact Ho
  iintro ⟨F17, Mr0, Mt0, Hx, Ho⟩
  iapply (row_send m K c 14) $$ [Mt0 Ml0 Ho]
  · isplitr
    · isplitl; · iexact HI
      iexact Hl
    isplitl [Mt0]; · iexact Mt0
    isplitl [Ml0]; · iexact Ml0
    iexact Ho
  iintro ⟨Mt0, -, Ho⟩
  -- the device's own block
  ihave Ho := (Entails.of_eq (show ow c (oS c ((14 : Fin 15).val + 1)) = ow (F := F) c 0 by
    rw [show (14 : Fin 15).val + 1 = 15 from rfl, oS_end])) $$ Ho
  ihave B15 := (Entails.of_eq (show busyN (F := F) c (1 + 13 + 1) = busy c 15 from busyN_val c 15)) $$ B15
  iapply (wp_own m K c 0 (Above.zero _)) $$ [B15 Hx Ho Hout]
  · isplitr; · iexact HI
    isplitr; · iexact Hl
    isplitl [B15]; · iexact B15
    isplitl [Hx]; · iexact Hx
    isplitl [Ho]; · iexact Ho
    iexact Hout
  iintro ⟨F18, D15, Hx, Ho, Hout⟩
  -- the receives
  ihave AV := (Entails.of_eq (bigSep_srcD c fun d : Fin 16 => (atPos ER (recvCell c d) 0 ∅ 0 : sProp 𝕄))) $$ AV
  icases AV with ⟨AVc, AV⟩
  ihave Mv0 := (Entails.of_eq (show iprop((bigSep Finset.univ fun s : Fin 15 => cred (tallyAt (recvCell c (srcD c s)) () NB))
      ∗ bigSep Finset.univ fun s : Fin 15 => atPos ER (recvCell c (srcD c s)) 0 ∅ 0) = Mv (F := F) c 0 by
        unfold Mv; rw [mix_zero, bigSep_sep'])) $$ [HcV AV]
  · isplitl [HcV]; · iexact HcV
    iexact AV
  iapply (wp_seq c (recvP c) (facts m K) (fun n => iprop(Mv c n ∗ ow c 0 ∗ oPts m c n)) (row_recv m K c) 15 0 _) $$ [Mv0 Ho Hout]
  · isplitr
    · isplitl; · iexact HI
      iexact Hl
    isplitl [Mv0]; · iexact Mv0
    isplitl [Ho]; · iexact Ho
    iexact Hout
  iintro ⟨Mv0, Ho, Hout⟩
  -- the drains
  ihave AS := (Entails.of_eq (bigSep_last fun s : Fin 16 => (atPos ER (sendCell c s) 0 ∅ 0 : sProp 𝕄))) $$ AS
  icases AS with ⟨AS15, AS⟩
  ihave Md0 := (Entails.of_eq (show iprop(Mt (F := F) c 15
      ∗ bigSep Finset.univ fun s : Fin 15 => atPos ER (sendCell c s.castSucc) 0 ∅ 0) = Md (F := F) c 0 by
        unfold Md Mt; rw [mix_zero, mix_end 15 le_rfl, bigSep_sep'])) $$ [Mt0 AS]
  · isplitl [Mt0]; · iexact Mt0
    iexact AS
  iapply (wp_seq c (drainP c) (facts m K) (fun n => iprop(Md c n ∗ ow c 0)) (row_drain m K c) 15 0 _) $$ [Md0 Ho]
  · isplitr
    · isplitl; · iexact HI
      iexact Hl
    isplitl [Md0]; · iexact Md0
    iexact Ho
  iintro ⟨Md0, Ho⟩
  -- the cells close
  unfold WP; rw [wp_ret]
  imod (free_end m K c) $$ [F16 F17 F18] with ⟨HW, VC⟩
  · isplitr; · iexact HI
    isplitl [F16]; · iexact F16
    isplitl [F17]; · iexact F17
    iexact F18
  imod (recv_end m K c) $$ [Mv0 AVc HQc] with ⟨HQ, VV⟩
  · isplitr; · iexact HI
    isplitl [Mv0]; · iexact Mv0
    isplitl [AVc]; · iexact AVc
    iexact HQc
  imod (send_end m K c) $$ [Md0 AS15 HY15] with ⟨HY, VS⟩
  · isplitr; · iexact HI
    isplitl [Md0]; · iexact Md0
    isplitl [AS15]; · iexact AS15
    iexact HY15
  imod (close_bar m K c 1 le_rfl) $$ [AB] with VB
  · isplitr; · iexact HI
    iexact AB
  imodintro
  iapply Hk
  rw [← bigSep_last (fun s : Fin 16 => iprop(∃ f, yPts (F := F) c s f)), ← bigSep_gdev c (fun d : Fin 16 => iprop(∃ f, qPts (F := F) c d f))]
  isplitl [HW HY HQ Mr0 D15]
  · isplitl [HW]; · iexact HW
    isplitl [HY]; · iexact HY
    isplitl [HQ]; · iexact HQ
    iapply (Entails.of_eq (show iprop(dPts m c (tgt c 15) ∗ mixRest (15 : Fin 16) (fun _ : Fin 16 => iprop(emp)) fun s => dPts m c (tgt c s))
      = bigSep Finset.univ fun s : Fin 16 => dPts m c (tgt c s) by
        rw [← mix_end 16 le_rfl (fun _ : Fin 16 => iprop(emp))]; exact (mix_put (15 : Fin 16) (fun _ : Fin 16 => iprop(emp)) fun s => dPts m c (tgt c s)).symm))
    isplitl [D15]; · iexact D15
    ihave Mr0 := (Entails.of_eq (show Mr m c ((14 : Fin 15).val + 1) = iprop(emp ∗ mixRest (15 : Fin 16) (fun _ : Fin 16 => iprop(emp)) fun s => dPts m c (tgt c s))
      from mix_take (15 : Fin 16) _ _)) $$ Mr0
    icases Mr0 with ⟨-, Mr0⟩
    iexact Mr0
  isplitl [VC VS VV VB]
  · isplitl [VC]; · iexact VC
    isplitl [VS]; · iexact VS
    isplitl [VV]; · iexact VV
    iexact VB
  isplitl [Hx]; · iexact Hx
  isplitl [Hout]; · iexact Hout
  iexact Ho

end Cert.Exchange

end
-- ==== Proof.Buffers.lean ====
/-
The buffers whole and in pieces: the weights array as sixteen blocks of columns, the buffers of slots as their slots.
-/
module

public import proofs.«01_k».proof.Proof.Run

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

section Pieces

variable {T : Type} [Fintype T] [DecidableEq T] {sp : Space} {s : Shape} {e : EltTy} (M : Memref sig .tc sp s e)
  (hM : M.view.set = Finset.univ) (r : T → Rect s)
  (hd : ∀ t t', t ≠ t' → Disjoint (r t).set (r t').set) (hc : ∀ i : s.Idx, ∃ t, i ∈ (r t).set)

omit [DecidableEq T] in
include hM hc in
/-- A cover of the shape covers the buffer. -/
theorem cover_view : (Finset.univ : Finset T).biUnion (fun t => ((M.view.slice (r t)).set : Finset M.view.ty.Idx)) = (Finset.univ : Finset M.view.ty.Idx) := by
  refine Finset.eq_univ_iff_forall.mpr fun i => ?_
  have hi : i ∈ M.view.set := hM ▸ Finset.mem_univ i
  obtain ⟨x, -, rfl⟩ := Finset.mem_map.mp hi
  obtain ⟨t, ht⟩ := hc x
  exact Finset.mem_biUnion.mpr ⟨t, Finset.mem_univ _, by rw [View.set_slice]; exact Finset.mem_map_of_mem _ ht⟩

omit [Fintype T] [DecidableEq T] in
include hd in
/-- Parts that do not meet are views that do not meet. -/
theorem disj_view (t t' : T) (h : t ≠ t') : Disjoint (M.view.slice (r t)).set (M.view.slice (r t')).set := by
  rw [View.set_slice, View.set_slice]
  exact (Finset.disjoint_map _).mpr (hd t t' h)

omit [FloatOps F] [DecidableEq T] in
include hM hd hc in
/-- A buffer whole is its pieces, at one contents, -/
theorem whole_eq (f : Buf (Elt F) (M.view.loc (c : Thread nD τ))) :
    (M.view.loc (c : Thread nD τ) ↦{fullShare} f : sProp 𝕄)
      = bigSep Finset.univ fun t => M.view.loc (c : Thread nD τ) ↦[(M.view.slice (r t)).set]{fullShare} f := by
  rw [← pointsTo_biUnion _ _ fun t _ t' _ h => disj_view M r hd t t' h, cover_view M hM r hc]
omit [FloatOps F] in
include hM hd hc in
/-- and its pieces, each at some contents, are it whole at some. -/
theorem whole_join (f₀ : Buf (Elt F) (M.view.loc (c : Thread nD τ))) :
    (bigSep Finset.univ fun t => iprop(∃ f, M.view.loc (c : Thread nD τ) ↦[(M.view.slice (r t)).set]{fullShare} f))
      ⊢ (iprop(∃ f, M.view.loc (c : Thread nD τ) ↦{fullShare} f) : sProp 𝕄) := by
  haveI : Nonempty (Buf (Elt F) (M.view.loc (c : Thread nD τ))) := ⟨f₀⟩
  iintro H
  ihave H := (BI.bigSep_exists_pi Finset.univ fun (t : T) (f : Buf (Elt F) (M.view.loc (c : Thread nD τ))) =>
    (M.view.loc (c : Thread nD τ) ↦[(M.view.slice (r t)).set]{fullShare} f : sProp 𝕄)) $$ H
  icases H with ⟨%fs, H⟩
  ihave H := (pointsTo_biUnion_join Finset.univ (fun t => (M.view.slice (r t)).set) fs f₀
    fun t _ t' _ h => disj_view M r hd t t' h) $$ H
  icases H with ⟨%g, -, H⟩
  iexists g
  ihave H := (Entails.of_eq (congrArg (fun S => (M.view.loc (c : Thread nD τ) ↦[S]{fullShare} g : sProp 𝕄)) (cover_view M hM r hc))) $$ H
  iexact H
end Pieces

/-! ## The rectangles -/

/-- An index between the bounds of a part lies in it. -/
theorem in_unit {s : Shape} {off size : Fin s.rank → ℕ} {inb} {i : s.Idx} (h : ∀ a, off a ≤ (i a).val ∧ (i a).val < off a + size a) :
    i ∈ (Rect.unit (s := s) off size inb).set := by
  exact Rect.mem_set_unit.mpr h

/-- The slots of the weights buffer do not meet, -/
theorem rcW_disj (j j' : Fin 3) (h : j ≠ j') : Disjoint (rcW j).set (rcW j').set := by
  have : j.val ≠ j'.val := fun e => h (Fin.ext e)
  exact Rect.unit_disjoint 0 (by show j.val + 1 ≤ j'.val ∨ j'.val + 1 ≤ j.val; omega)
/-- and fill it. -/
theorem rcW_cover (i : S3x8192x256.Idx) : ∃ j, i ∈ (rcW j).set :=
  ⟨i 0, in_unit fun a => by
    match a with
    | 0 => exact ⟨le_refl _, Nat.lt_succ_self _⟩
    | 1 => exact ⟨Nat.zero_le _, by have := (i 1).isLt; show (i 1).val < 0 + 8192; rw [Nat.zero_add]; exact this⟩
    | 2 => exact ⟨Nat.zero_le _, by have := (i 2).isLt; show (i 2).val < 0 + 256; rw [Nat.zero_add]; exact this⟩⟩
/-- The slots of a buffer of blocks do not meet, -/
theorem rcY_disj (s s' : Fin 16) (h : s ≠ s') : Disjoint (rcY s).set (rcY s').set := by
  have : s.val ≠ s'.val := fun e => h (Fin.ext e)
  exact Rect.unit_disjoint 0 (by show s.val + 1 ≤ s'.val ∨ s'.val + 1 ≤ s.val; omega)
/-- and fill it. -/
theorem rcY_cover (i : S16x512x256.Idx) : ∃ s, i ∈ (rcY s).set :=
  ⟨i 0, in_unit fun a => by
    match a with
    | 0 => exact ⟨le_refl _, Nat.lt_succ_self _⟩
    | 1 => exact ⟨Nat.zero_le _, by have := (i 1).isLt; show (i 1).val < 0 + 512; rw [Nat.zero_add]; exact this⟩
    | 2 => exact ⟨Nat.zero_le _, by have := (i 2).isLt; show (i 2).val < 0 + 256; rw [Nat.zero_add]; exact this⟩⟩
/-- The devices' columns do not meet, -/
theorem rcD_disj (e e' : Fin 16) (h : e ≠ e') : Disjoint (rcD e).set (rcD e').set := by
  have : e.val ≠ e'.val := fun x => h (Fin.ext x)
  exact Rect.unit_disjoint 1 (by show 256 * e.val + 256 ≤ 256 * e'.val ∨ 256 * e'.val + 256 ≤ 256 * e.val; omega)
/-- and are all of the weights. -/
theorem rcD_cover (i : S8192x4096.Idx) : ∃ e, i ∈ (rcD e).set := by
  have h1 : (i 1).val < 4096 := (i 1).isLt
  refine ⟨⟨(i 1).val / 256, by omega⟩, in_unit fun a => ?_⟩
  match a with
  | 0 => exact ⟨Nat.zero_le _, by have := (i 0).isLt; show (i 0).val < 0 + 8192; rw [Nat.zero_add]; exact this⟩
  | 1 => exact ⟨show 256 * ((i 1).val / 256) ≤ (i 1).val by omega, show (i 1).val < 256 * ((i 1).val / 256) + 256 by omega⟩

omit [FloatOps F] in
/-- A slot held is that part of the buffer held: of the weights buffer, -/
theorem wPts_eq (s : Fin 3) (f : Buf (Elt F) (bM.view.loc (c : Thread nD τ))) : wPts c s f
    = (bM.view.loc (c : Thread nD τ) ↦[(bM.view.slice (rcW s)).set]{fullShare} f : sProp 𝕄) :=
  congrArg (fun S => (bM.view.loc (c : Thread nD τ) ↦[S]{fullShare} f : sProp 𝕄)) (Memref.set_view_squeeze _ _)
omit [FloatOps F] in
/-- of the send buffer, -/
theorem yPts_eq (s : Fin 16) (f : Buf (Elt F) (yM.view.loc (c : Thread nD τ))) : yPts c s f
    = (yM.view.loc (c : Thread nD τ) ↦[(yM.view.slice (rcY s)).set]{fullShare} f : sProp 𝕄) :=
  congrArg (fun S => (yM.view.loc (c : Thread nD τ) ↦[S]{fullShare} f : sProp 𝕄)) (Memref.set_view_squeeze _ _)
omit [FloatOps F] in
/-- of the receive buffer. -/
theorem qPts_eq (s : Fin 16) (f : Buf (Elt F) (rM.view.loc (c : Thread nD τ))) : qPts c s f
    = (rM.view.loc (c : Thread nD τ) ↦[(rM.view.slice (rcY s)).set]{fullShare} f : sProp 𝕄) :=
  congrArg (fun S => (rM.view.loc (c : Thread nD τ) ↦[S]{fullShare} f : sProp 𝕄)) (Memref.set_view_squeeze _ _)

/-! ## The four buffers -/

omit [FloatOps F] in
/-- The weights buffer in its three slots, -/
theorem w_split : iprop(∃ f, (c : Thread nD τ).loc cc0_scratch0 ↦{fullShare} f)
    ⊢ (bigSep Finset.univ fun j : Fin 3 => iprop(∃ f, wPts (F := F) c j f) : sProp 𝕄) := by
  iintro ⟨%f, H⟩
  iapply (show ((c : Thread nD τ).loc _ ↦{fullShare} f : sProp 𝕄) ⊢ _ from ?_) $$ H
  refine (Entails.of_eq (whole_eq c bM (View.set_whole _) rcW rcW_disj rcW_cover f)).trans ?_
  refine bigSep_mono fun s _ => ?_
  rw [← wPts_eq c s f]
  show wPts c s f ⊢ iprop(∃ f, wPts c s f)
  iintro H
  iexists f
  iexact H
omit [FloatOps F] in
/-- and back; -/
theorem w_join (f₀ : Buf (Elt F) ((c : Thread nD τ).loc cc0_scratch0)) :
    (bigSep Finset.univ fun j : Fin 3 => iprop(∃ f, wPts (F := F) c j f))
      ⊢ (iprop(∃ f, (c : Thread nD τ).loc cc0_scratch0 ↦{fullShare} f) : sProp 𝕄) := by
  refine (bigSep_mono fun s _ => ?_).trans (whole_join c bM (View.set_whole _) rcW rcW_disj rcW_cover f₀)
  show iprop(∃ f, wPts c s f) ⊢ iprop(∃ f, bM.view.loc (c : Thread nD τ) ↦[(bM.view.slice (rcW s)).set]{fullShare} f)
  iintro ⟨%f, H⟩
  iexists f
  rw [← wPts_eq c s f]
  iexact H
omit [FloatOps F] in
/-- the send buffer in its sixteen slots, -/
theorem y_split : iprop(∃ f, (c : Thread nD τ).loc cc0_scratch1 ↦{fullShare} f)
    ⊢ (bigSep Finset.univ fun s : Fin 16 => iprop(∃ f, yPts (F := F) c s f) : sProp 𝕄) := by
  iintro ⟨%f, H⟩
  iapply (show ((c : Thread nD τ).loc _ ↦{fullShare} f : sProp 𝕄) ⊢ _ from ?_) $$ H
  refine (Entails.of_eq (whole_eq c yM (View.set_whole _) rcY rcY_disj rcY_cover f)).trans ?_
  refine bigSep_mono fun s _ => ?_
  rw [← yPts_eq c s f]
  show yPts c s f ⊢ iprop(∃ f, yPts c s f)
  iintro H
  iexists f
  iexact H
omit [FloatOps F] in
/-- and back; -/
theorem y_join (f₀ : Buf (Elt F) ((c : Thread nD τ).loc cc0_scratch1)) :
    (bigSep Finset.univ fun s : Fin 16 => iprop(∃ f, yPts (F := F) c s f))
      ⊢ (iprop(∃ f, (c : Thread nD τ).loc cc0_scratch1 ↦{fullShare} f) : sProp 𝕄) := by
  refine (bigSep_mono fun s _ => ?_).trans (whole_join c yM (View.set_whole _) rcY rcY_disj rcY_cover f₀)
  show iprop(∃ f, yPts c s f) ⊢ iprop(∃ f, yM.view.loc (c : Thread nD τ) ↦[(yM.view.slice (rcY s)).set]{fullShare} f)
  iintro ⟨%f, H⟩
  iexists f
  rw [← yPts_eq c s f]
  iexact H
omit [FloatOps F] in
/-- the receive buffer in its sixteen slots, -/
theorem q_split : iprop(∃ f, (c : Thread nD τ).loc cc0_scratch2 ↦{fullShare} f)
    ⊢ (bigSep Finset.univ fun d : Fin 16 => iprop(∃ f, qPts (F := F) c d f) : sProp 𝕄) := by
  iintro ⟨%f, H⟩
  iapply (show ((c : Thread nD τ).loc _ ↦{fullShare} f : sProp 𝕄) ⊢ _ from ?_) $$ H
  refine (Entails.of_eq (whole_eq c rM (View.set_whole _) rcY rcY_disj rcY_cover f)).trans ?_
  refine bigSep_mono fun s _ => ?_
  rw [← qPts_eq c s f]
  show qPts c s f ⊢ iprop(∃ f, qPts c s f)
  iintro H
  iexists f
  iexact H
omit [FloatOps F] in
/-- and back; -/
theorem q_join (f₀ : Buf (Elt F) ((c : Thread nD τ).loc cc0_scratch2)) :
    (bigSep Finset.univ fun d : Fin 16 => iprop(∃ f, qPts (F := F) c d f))
      ⊢ (iprop(∃ f, (c : Thread nD τ).loc cc0_scratch2 ↦{fullShare} f) : sProp 𝕄) := by
  refine (bigSep_mono fun s _ => ?_).trans (whole_join c rM (View.set_whole _) rcY rcY_disj rcY_cover f₀)
  show iprop(∃ f, qPts c s f) ⊢ iprop(∃ f, rM.view.loc (c : Thread nD τ) ↦[(rM.view.slice (rcY s)).set]{fullShare} f)
  iintro ⟨%f, H⟩
  iexists f
  rw [← qPts_eq c s f]
  iexact H
omit [FloatOps F] in
/-- the weights array as launched is its blocks of columns, by the steps that fetch them. -/
theorem d_eq : ((c : Thread nD τ).loc main_arg1 ↦{fullShare} wAt m c : sProp 𝕄)
    = bigSep Finset.univ fun s : Fin 16 => dPts m c (tgt c s) := by
  rw [show ((c : Thread nD τ).loc main_arg1 ↦{fullShare} wAt m c : sProp 𝕄) = bigSep Finset.univ fun e : Fin 16 => dPts m c e
    from whole_eq c wM (View.set_whole _) rcD rcD_disj rcD_cover (wAt m c)]
  exact bigSep_univ_enum (tgt c) (tgt_inj c) (by rfl) fun e => dPts m c e

end Cert.Exchange

end
-- ==== Proof.Body.lean ====
/-
The kernel's obligation on one device: what its body starts from, what it leaves, and the result it stores.
-/
module

public import proofs.«01_k».proof.Proof.Buffers

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-! ## The result -/

/-- A row's place in its device's block. -/
def inPart (i : S8192x256.Idx) : S512x256.Idx := fun a =>
  match a with
  | ⟨0, _⟩ => ⟨(i 0).val % 512, Nat.mod_lt _ (by decide)⟩
  | ⟨1, _⟩ => ⟨(i 1).val, (i 1).isLt⟩
/-- A row is of one of the sixteen devices. -/
theorem part_lt (i : S8192x256.Idx) : (i 0).val / 512 < 16 := by
  have h : (i 0).val < 8192 := (i 0).isLt
  omega
/-- The device whose rows a row is of. -/
def partOf (i : S8192x256.Idx) : Fin 16 := ⟨(i 0).val / 512, part_lt i⟩

/-- Device `c`'s columns of the result: device `d`'s rows are the block `d` computed for `c`. -/
def outAt : (cc0_stg1_0 : Ref sig .tc).ty.Contents (Elt F) := fun i => partAt m c (partOf i) (inPart i)

/-- An entry of the result lies in its device's rows, at its place there. -/
theorem emb_part (i : S8192x256.Idx) : (rcQ (partOf i)).emb (inPart i) = i := by
  funext a
  match a with
  | ⟨0, _⟩ =>
    refine Fin.ext ?_
    show 512 * ((i 0).val / 512) + 1 * ((i 0).val % 512) = (i 0).val
    omega
  | ⟨1, _⟩ =>
    refine Fin.ext ?_
    show 0 + 1 * (i 1).val = (i 1).val
    omega

/-- Every device is `c` or one of its sources. -/
theorem eq_or_src (d : Fin 16) : d = c ∨ ∃ s, d = srcD c s := by
  revert c d; decide +kernel

/-- With its own rows and all its sources' stored, the staged result is that. -/
theorem out_eq (f : (cc0_stg1_0 : Ref sig .tc).ty.Contents (Elt F)) (h : outOk m c 15 f) : f = outAt m c := by
  have hr : ∀ d : Fin 16, (oM.access (rcQ d)).read (Elt F) f = partAt m c d := fun d => by
    rcases eq_or_src c d with rfl | ⟨s, rfl⟩
    · exact h.1
    · exact h.2 s s.isLt
  funext i
  have hi := congrFun (hr (partOf i)) (inPart i)
  have he : (oM.access (rcQ (partOf i))).read (Elt F) f (inPart i) = f ((rcQ (partOf i)).emb (inPart i)) := rfl
  rw [emb_part] at he
  exact he.symm.trans hi

/-! ## The proof data -/

/-- The grid has one point, -/
theorem cfg0_N : cfg0.N = 1 := by decide
/-- this one, -/
def t₀ : Fin cfg0.N := ⟨0, by rw [cfg0_N]; decide⟩
/-- and no other. -/
theorem only_t (t : Fin cfg0.N) : t = t₀ := by
  obtain ⟨t, ht⟩ := t; have := cfg0_N; exact Fin.ext (by simp only [t₀]; omega)

/-- What the body starts from beside its scratch buffers: the cells' records and levels, its tools, and its copy of the
    weights. -/
def start : sProp 𝕄 :=
  iprop((∃ K, facts m K) ∗ tools c ∗ ((c : Thread nD τ).loc main_arg1 ↦{fullShare} wAt m c))
/-- The three scratch buffers, at some contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))
/-- Before the kernel's one point, -/
def Φpre : sProp 𝕄 := iprop(start m c ∗ scratch c)
/-- and after it: the cells closed, the weights as they were. -/
def Φpost : sProp 𝕄 := iprop((closed0 c ∗ ((c : Thread nD τ).loc main_arg1 ↦{fullShare} wAt m c)) ∗ scratch c)

variable (ρ : Dev nD → PrngReg)

/-- The proof data of the region: the staged rows stay, the staged result ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => outAt m c
  Φ t := match t with
    | ⟨0, _⟩ => Φpre m c
    | ⟨_ + 1, _⟩ => Φpost m c
  q _ := fullShare
  owed t := match t with
    | ⟨0, _⟩ => O₀ c
    | ⟨_ + 1, _⟩ => 0

/-- The argument is staged there. -/
theorem fetch_x (t : Fin cfg0.N) : (cfg0.win (0 : Fin 2)).fetch t = true := by rw [only_t t]; rfl

omit [FloatOps F] in
/-- A buffer owned whole at `X`. -/
theorem owns_at (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer held at given contents. -/
abbrev stg (b : Ref sig .tc) (X : b.ty.Contents (Elt F)) : sProp 𝕄 :=
  iprop(∃ f : Buf (Elt F) ((c : Thread nD τ).loc b), ⌜f = X⌝ ∗ ((c : Thread nD τ).loc b ↦{fullShare} f))

/-- What the body starts from, -/
def bodyPre : sProp 𝕄 :=
  iprop(Φpre m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
/-- and what it ends with. -/
def bodyPost : sProp 𝕄 :=
  iprop(Φpost m c ∗ (dats m ρ 0 c).owesAt () t₀.succ ∗ stg c cc0_stg0_0 (xAt m c) ∗ stg c cc0_stg1_0 (outAt m c))

/-- The pieces of the body take the one to the other. -/
theorem run_body : bodyPre m c ρ ⊢ WP c (bodyP c) fun _ => bodyPost m c ρ := by
  unfold bodyPre bodyPost Φpre Φpost start scratch Dat.owesAt Pipeline.owesWithin
  rw [show (dats m ρ 0 c).owed t₀.castSucc = O₀ c from rfl, show (dats m ρ 0 c).owed t₀.succ = 0 from rfl]
  iintro ⟨⟨⟨⟨%K, #HI⟩, Ht, Hw⟩, HB, HY, HQ⟩, ⟨%W, %hW, Ho⟩, ⟨%d0, ⟨%g0, %hg0, Hx⟩⟩, ⟨%d1, ⟨%g1, %hg1, Hout⟩⟩⟩
  have hx : g0 = xAt m c := by rw [hg0]; unfold Dat.before; rw [if_pos (fetch_x t₀)]; rfl
  subst hx
  icases HB with ⟨%b0, HB⟩
  icases HY with ⟨%y0, HY⟩
  icases HQ with ⟨%q0, HQ⟩
  ihave HB := (w_split c) $$ [HB]
  · iexists b0; iexact HB
  ihave HY := (y_split c) $$ [HY]
  · iexists y0; iexact HY
  ihave HQ := (q_split c) $$ [HQ]
  · iexists q0; iexact HQ
  ihave HD := (Entails.of_eq (d_eq m c)) $$ Hw
  iapply (run_pieces m K c) $$ [Ht HB HY HQ HD Hx Hout Ho]
  · isplitr; · iexact HI
    isplitl [Ht]; · iexact Ht
    isplitl [HB HY HQ HD]
    · unfold pieces
      isplitl [HB]; · iexact HB
      isplitl [HY]; · iexact HY
      isplitl [HQ]; · iexact HQ
      iexact HD
    isplitl [Hx]; · unfold xPts; iexact Hx
    isplitl [Hout]; · iexists g1; iexact Hout
    unfold ow; iexists W; iexact Ho
  unfold pieces oPts ow xPts
  iintro ⟨⟨HB, HY, HQ, HD⟩, HC, Hx, ⟨%f, %hf, Hout⟩, ⟨%W', Ho⟩⟩
  ihave HB := (w_join c b0) $$ HB
  ihave HY := (y_join c y0) $$ HY
  ihave HQ := (q_join c q0) $$ HQ
  ihave Hw := (Entails.of_eq (d_eq m c).symm) $$ HD
  isplitl [HB HY HQ HC Hw]
  · isplitl [HC Hw]
    · isplitl [HC]; · iexact HC
      iexact Hw
    isplitl [HB]; · iexact HB
    isplitl [HY]; · iexact HY
    iexact HQ
  isplitl [Ho]
  · iexists W'
    isplitr; · ipureintro; exact fun _ _ => Or.inl trivial
    iexact Ho
  isplitl [Hx]
  · iexists _; isplitr; · (ipureintro; rfl)
    iexact Hx
  iexists f; isplitr; · (ipureintro; exact out_eq m c f hf)
  iexact Hout

set_option maxRecDepth 8000 in
/-- The obligation on device `c`. -/
theorem body_obligation : BodyObligation (dats (F := F) m ρ 0 c) (defs₀ (F := F)) 𝒱₀ () Set.univ := fun t => by
  rw [only_t t]
  rw [bigSep_W0, bigSep_W0]
  simp only [owns_at]
  show bodyPre m c ρ ⊢ wp frame (wpE (defs₀ (F := F)) 𝒱₀ (c : Thread nD τ) none) Set.univ
    (cc0_body xM (Memref.isWhole_whole _) wM (Memref.isWhole_whole _) oM (Memref.isWhole_whole _) bM (Memref.isWhole_whole _)
      yM (Memref.isWhole_whole _) rM (Memref.isWhole_whole _) cc0_scratch3 cc0_scratch4 cc0_scratch5) (fun _ => bodyPost m c ρ)
  rw [body_eq_pieces]
  rw [wp_deviceId]
  exact run_body m c ρ

end Cert.Exchange

end
-- ==== Proof.Cells.lean ====
/-
The launch's ghost state: every device's thirty-six cells, the duties dealt to the devices that pay them, and what the
devices owe one another at the start.
-/
module

public import proofs.«01_k».proof.Proof.Body

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

set_option maxRecDepth 8000 in
/-- Different numbers are different semaphores, -/
theorem csem_injective : Function.Injective csem := by decide +kernel
/-- also across devices. -/
theorem kcell_injective : Function.Injective (kcell : Dev nD × Fin 36 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All the semaphores of the kernel. -/
def allCells : Finset (GSem nD τ sig) := Finset.univ.map ⟨kcell, kcell_injective⟩

/-- The four kinds of a device's cells, numbered. -/
def kOf : Fin 3 ⊕ Fin 16 ⊕ Fin 16 ⊕ Fin 1 → Fin 36
  | .inl j => kC j
  | .inr (.inl s) => kS s
  | .inr (.inr (.inl d)) => kR d
  | .inr (.inr (.inr _)) => kB
/-- The two ways to count them agree. -/
theorem kOf_bij : Function.Bijective kOf := by decide +kernel

omit [FloatOps F] in
/-- A family over a device's cells, by their kinds. -/
theorem by_kind (c : Dev nD) (Φ : GSem nD τ sig → sProp 𝕄) :
    (bigSep Finset.univ fun k : Fin 36 => Φ (kcell (c, k)))
      = iprop((bigSep Finset.univ fun j : Fin 3 => Φ (copyCell c j)) ∗ (bigSep Finset.univ fun s : Fin 16 => Φ (sendCell c s))
          ∗ (bigSep Finset.univ fun d : Fin 16 => Φ (recvCell c d)) ∗ Φ (barCell c)) := by
  rw [bigSep_univ_equiv (Equiv.ofBijective kOf kOf_bij), bigSep_univ_sum, bigSep_univ_sum, bigSep_univ_sum]
  rw [show (bigSep Finset.univ fun k : Fin 1 => Φ (kcell (c, Equiv.ofBijective kOf kOf_bij (.inr (.inr (.inr k)))))) = Φ (barCell c)
    from (bigSep_univ_eq_bigSepL [0] (by decide) (by decide) _).trans ((bigSepL_singleton _ _).trans (congrArg Φ (kcell_B c)))]
  rw [bigSep_congr (s := Finset.univ) fun (j : Fin 3) _ => congrArg Φ (show kcell (c, Equiv.ofBijective kOf kOf_bij (.inl j)) = _ from kcell_C c j)]
  rw [bigSep_congr (s := Finset.univ) fun (j : Fin 16) _ => congrArg Φ (show kcell (c, Equiv.ofBijective kOf kOf_bij (.inr (.inl j))) = _ from kcell_S c j)]
  rw [bigSep_congr (s := Finset.univ) fun (j : Fin 16) _ => congrArg Φ (show kcell (c, Equiv.ofBijective kOf kOf_bij (.inr (.inr (.inl j)))) = _ from kcell_R c j)]
  rfl

omit [FloatOps F] in
/-- A family over the cells but the barrier's, and the barrier's. -/
theorem by_last (c : Dev nD) (Φ : GSem nD τ sig → sProp 𝕄) :
    (bigSep Finset.univ fun k : Fin 36 => Φ (kcell (c, k)))
      = iprop(Φ (barCell c) ∗ bigSep Finset.univ fun i : Fin 35 => Φ ((c : Thread nD τ), osem i)) := by
  rw [bigSep_univ_at (fun k : Fin 36 => Φ (kcell (c, k))) kB, kcell_B,
    bigSep_erase_enum (Fin.castSucc : Fin 35 → Fin 36) (Fin.castSucc_injective 35) kB
      (fun s h => by have := congrArg Fin.val h; have h' := s.isLt; simp at this; omega) (by rfl)]
  rfl

/-! ## The duties, by who pays them -/

/-- What a device pays: signals, the two ends of each send, and fetches. -/
abbrev Duty : Type := Fin 15 ⊕ Fin 15 ⊕ Fin 15 ⊕ Fin 16
/-- The duties of device `d`: its signals, its sends' two, its fetches. -/
def tokOf (x : Dev nD × Duty) : GSem nD τ sig × ℕ × Dev nD :=
  match x.2 with
  | .inl t => (barCell (gdev x.1 t), 0, x.1)
  | .inr (.inl s) => (sendCell x.1 s.castSucc, 0, x.1)
  | .inr (.inr (.inl s)) => (recvCell (tgt x.1 s.castSucc) x.1, 0, x.1)
  | .inr (.inr (.inr s)) => (copyCell x.1 (wof s), s.val / 3, x.1)

/-- A duty's device, semaphore and round, as numbers. -/
def tokKey (x : Dev nD × Duty) : Dev nD × SemLoc sig × ℕ := ((tokOf x).1.1.1, (tokOf x).1.2, (tokOf x).2.1)
set_option maxRecDepth 8000 in
/-- Different duties of a device are different payments. -/
theorem tokKey_injective (d : Dev nD) : Function.Injective fun y : Duty => tokKey (d, y) := by
  revert d; decide +kernel
/-- A duty is paid by its own device, -/
theorem tokOf_payer (x : Dev nD × Duty) : (tokOf x).2.2 = x.1 := by
  rcases x with ⟨d, _ | _ | _ | _⟩ <;> rfl
/-- and different duties are different payments. -/
theorem tokOf_injective : Function.Injective tokOf := by
  rintro ⟨d, y⟩ ⟨d', y'⟩ h
  have h1 : d = d' := (tokOf_payer (d, y)).symm.trans ((congrArg (fun z => z.2.2) h).trans (tokOf_payer (d', y')))
  subst h1
  have h2 : y = y' := tokKey_injective d (congrArg (fun z : GSem nD τ sig × ℕ × Dev nD => (z.1.1.1, z.1.2, z.2.1)) h)
  rw [h2]
/-- All the payments. -/
def allToks : Finset (GSem nD τ sig × ℕ × Dev nD) := Finset.univ.map ⟨tokOf, tokOf_injective⟩

/-- The resources the launch mints: the staging cells', and these cells'. -/
def u₀ : UU :=
  (initOf (Pipeline.cells cfgs cellOf_inj) (Pipeline.launchToks cfgs cellOf_inj), initOf allCells allToks)

/-- The duties device `c` pays. -/
def payToks (c : Dev nD) : sProp 𝕄 :=
  iprop((bigSep Finset.univ fun t : Fin 15 => dutyTok ER (barCell (gdev c t)) 0 c)
    ∗ (bigSep Finset.univ fun s : Fin 15 => dutyTok ER (sendCell c s.castSucc) 0 c)
    ∗ (bigSep Finset.univ fun s : Fin 15 => dutyTok ER (recvCell (tgt c s.castSucc) c) 0 c)
    ∗ (bigSep Finset.univ fun s : Fin 16 => dutyTok ER (copyCell c (wof s)) (s.val / 3) c))

/-- What the launch deals device `c`, -/
def G (c : Dev nD) : sProp 𝕄 :=
  iprop((bigSep Finset.univ fun k : Fin 36 => roundState ER (Rd m) (kcell (c, k)) 0)
    ∗ (bigSep Finset.univ fun k : Fin 36 => iprop(atPos ER (kcell (c, k)) 0 ∅ 0 ∗ reached ER (kcell (c, k)) 0)) ∗ payToks c)
/-- and what the device holds once all cells are allocated. -/
def G' (c : Dev nD) : sProp 𝕄 :=
  iprop((∃ K, recs m K) ∗ (bigSep Finset.univ fun k : Fin 36 => atPos ER (kcell (c, k)) 0 ∅ 0) ∗ payToks c)

/-- The bookkeeping at the start gives each device its share. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 36 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => by rw [bigSep_univ_sum, bigSep_univ_sum, bigSep_univ_sum]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The barrier semaphore is the one the launch holds outside the region. -/
theorem unscopedSems_eq (c : Dev nD) : (unscopedSems0 c : sProp 𝕄) = semVal (barCell c) 0 := by
  unfold unscopedSems0; rw [bigSep_eq_bigSepL_of_eq [SemLoc.reg barS] (by decide +kernel) (by decide)]; rfl

/-- A device's semaphores, at zero, are put under the schedule. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ payToks c) := by
  unfold G
  rw [unscopedSems_eq]
  iintro ⟨Hos, Hus, Hst, Hat, Htok⟩
  ihave Hv := (Entails.of_eq (by_last c fun g => (semVal g 0 : sProp 𝕄)).symm) $$ [Hos Hus]
  · isplitl [Hus]; · iexact Hus
    unfold Pipeline.ownSems0
    iexact Hos
  imod (show iprop((bigSep Finset.univ fun k : Fin 36 => semVal (kcell (c, k)) 0) ∗ bigSep Finset.univ fun k : Fin 36 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every device gets the records of all cells. -/
theorem share_records :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m) := by
  rw [bigSep_sep', bigSep_sep', ← bigSep_univ_prod (fun ck : Dev nD × Fin 36 => iprop(∃ κ : ℕ, cellInv ER (Rd m) κ (kcell ck))),
    bigSep_congr (s := Finset.univ) (fun (c : Dev nD) _ => bigSep_sep' Finset.univ (fun k : Fin 36 => (atPos ER (kcell (c, k)) 0 ∅ 0 : sProp 𝕄)) (fun k => reached ER (kcell (c, k)) 0)),
    bigSep_sep', ← bigSep_univ_prod (fun ck : Dev nD × Fin 36 => (reached ER (kcell ck) 0 : sProp 𝕄))]
  iintro ⟨HI, ⟨Hat, HR⟩, Htok⟩
  ihave HK := (BI.bigSep_exists_pi Finset.univ (fun (ck : Dev nD × Fin 36) (κ : ℕ) => (cellInv ER (Rd m) κ (kcell ck) : sProp 𝕄))) $$ HI
  icases HK with ⟨%K, HI⟩
  ihave HK := (Entails.of_eq (show iprop((bigSep Finset.univ fun ck : Dev nD × Fin 36 => cellInv ER (Rd m) (K ck) (kcell ck))
      ∗ bigSep Finset.univ fun ck : Dev nD × Fin 36 => reached ER (kcell ck) 0) = recs m K by unfold recs; rw [bigSep_sep'])) $$ [HI HR]
  · isplitl [HI]; · iexact HI
    iexact HR
  icases HK with #HK
  iapply (BI.bigSep_with_persistent (R := recs m K)
    (Φ := fun c : Dev nD => iprop((bigSep Finset.univ fun k : Fin 36 => atPos ER (kcell (c, k)) 0 ∅ 0) ∗ payToks c)) fun c _ => by
      unfold G'
      iintro ⟨#HK, Ha, Ht⟩
      isplitr; · iexists K; iexact HK
      isplitl [Ha]; · iexact Ha
      iexact Ht)
  isplitr; · iexact HK
  rw [bigSep_sep']
  isplitl [Hat]; · iexact Hat
  iexact Htok

/-- Every device's cells allocated at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (share_records m))

/-! ## What is owed to a device at the start -/

/-- Barriers of different devices differ, -/
theorem barCell_inj {a b : Dev nD} : barCell a = barCell b ↔ a = b :=
  ⟨fun h => congrArg (fun g : GSem nD τ sig => g.1.1) h, fun h => h ▸ rfl⟩
/-- receive semaphores of different sources differ, -/
theorem recv_sem_inj : Function.Injective fun d : Fin 16 => (SemLoc.dma (dsem (21 + d.val) (lt37 d)) : SemLoc sig) := by
  decide +kernel
/-- also across devices, -/
theorem recvCell_inj {a b : Dev nD} {d e : Fin 16} : recvCell a d = recvCell b e ↔ a = b ∧ d = e :=
  ⟨fun h => ⟨congrArg (fun g : GSem nD τ sig => g.1.1) h, recv_sem_inj (congrArg Prod.snd h)⟩, fun h => by rw [h.1, h.2]⟩
/-- and no receive semaphore is a barrier. -/
theorem recv_ne_bar (a b : Dev nD) (d : Fin 16) : recvCell a d ≠ barCell b := fun h => by cases congrArg Prod.snd h

/-- A sum of debts, read at one semaphore. -/
theorem sum_tally {N : ℕ} (f : Fin N → CellTallies nD τ sig Unit) (g : GSem nD τ sig) : (∑ i, f i) g () = ∑ i, f i g () := by
  rw [Finset.sum_apply, Finsupp.finsetSum_apply]

/-- What device `d` owes device `c`'s barrier, -/
theorem owed_bar (d c : Dev nD) : O₀ d (barCell c) () = ∑ t : Fin 15, if gdev d t = c then 1 else 0 := by
  unfold O₀ oS oB
  rw [Pi.add_apply, Finsupp.add_apply, sum_tally, sum_tally, Finset.sum_eq_zero, Nat.zero_add]
  · refine Finset.sum_congr rfl fun t _ => ?_
    rw [if_pos (Nat.zero_le _), tallyAt_apply]
    exact if_congr ⟨fun h => (barCell_inj.mp h.1).symm, fun h => ⟨barCell_inj.mpr h.symm, rfl⟩⟩ rfl rfl
  · intro s _
    rw [if_pos (Nat.zero_le _), tallyAt_apply, if_neg fun h => recv_ne_bar _ _ _ h.1.symm]
/-- and its receive semaphore `e`. -/
theorem owed_recv (d c : Dev nD) (e : Fin 16) :
    O₀ d (recvCell c e) () = ∑ s : Fin 15, if tgt d s.castSucc = c ∧ d = e then NB else 0 := by
  have hb : (oB d 0) (recvCell c e) () = 0 := by
    unfold oB; rw [sum_tally]
    refine Finset.sum_eq_zero fun t _ => ?_
    rw [if_pos (Nat.zero_le _), tallyAt_apply, if_neg fun h => recv_ne_bar _ _ _ h.1]
  unfold O₀
  rw [Pi.add_apply, Finsupp.add_apply, hb, Nat.add_zero]
  unfold oS
  rw [sum_tally]
  refine Finset.sum_congr rfl fun t _ => ?_
  rw [if_pos (Nat.zero_le _), tallyAt_apply]
  exact if_congr ⟨fun h => ⟨(recvCell_inj.mp h.1).1.symm, (recvCell_inj.mp h.1).2.symm⟩, fun h => ⟨recvCell_inj.mpr ⟨h.1.symm, h.2.symm⟩, rfl⟩⟩ rfl rfl

/-- Fifteen signal a device; -/
theorem count_bar (c : Dev nD) : (∑ d : Dev nD, ∑ t : Fin 15, if gdev d t = c then 1 else 0) = 15 := by
  revert c; decide +kernel
/-- each of its sources sends it one block. -/
theorem count_recv (c : Dev nD) (s : Fin 15) :
    (∑ d : Dev nD, ∑ t : Fin 15, if tgt d t.castSucc = c ∧ d = srcD c s then 1 else 0) = 1 := by
  revert c s; decide +kernel

/-- All the devices together owe a barrier fifteen, -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_bar]
/-- and a receive semaphore one block. -/
theorem launch_recv (c : Dev nD) (s : Fin 15) :
    tallyOn (recvCell c (srcD c s)) (launchCredit (Pipeline.owing O₀) 0 (recvCell c (srcD c s)))
      = (tallyAt (recvCell c (srcD c s)) () NB : CellTallies nD τ sig Unit) := by
  unfold tallyAt; refine congrArg _ (Finsupp.ext fun u => ?_); cases u
  rw [Pipeline.launchCredit_owing, Finsupp.single_eq_same, Finset.sum_congr rfl fun d _ => owed_recv d c (srcD c s)]
  have h := congrArg (NB * ·) (count_recv c s)
  simp only [Finset.mul_sum, mul_ite, mul_one, mul_zero] at h
  exact h

omit [FloatOps F] in
/-- The credit a device starts with. -/
theorem creds (c : Dev nD) :
    (Pipeline.launchCred O₀ c : sProp 𝕄) ⊢ iprop(cred (tallyAt (barCell c) () 15)
      ∗ bigSep Finset.univ fun s : Fin 15 => cred (tallyAt (recvCell c (srcD c s)) () NB)) := by
  unfold Pipeline.launchCred
  rw [bigSep_univ_at _ (SemLoc.reg barS), launch_bar]
  refine sep_mono_right ?_
  refine (bigSep_subset (t := Finset.univ.map ⟨fun s : Fin 15 => (SemLoc.dma (dsem (21 + (srcD c s).val) (lt37 (srcD c s))) : SemLoc sig),
    fun a b h => srcD_inj c (recv_sem_inj h)⟩) fun x hx => ?_).trans ?_
  · obtain ⟨s, -, rfl⟩ := Finset.mem_map.mp hx
    exact Finset.mem_erase.mpr ⟨(fun h => by cases h), Finset.mem_univ _⟩
  · rw [bigSep_map]
    exact Entails.of_eq (bigSep_congr fun s _ => congrArg cred (launch_recv c s))

end Cert.Exchange

end
-- ==== Proof.Launch.lean ====
/-
The run of the whole kernel: every device's body from the launch, to the arrays and the counters it ends with.
-/
module

public import proofs.«01_k».proof.Proof.Cells
public import Idealize.ShloMosaic.Lib.Pipeline.CollectiveSegs

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

set_option maxRecDepth 8000 in
/-- The kernel's own semaphores are the scoped ones the stages do not use. -/
theorem ownSemFacts : Pipeline.OwnSemFacts cfg0.spec osem := by decide +kernel
/-- The windows' arrays are held whole. -/
theorem whole_shares (c : Dev nD) (w : Fin cfg0.W) : (dats m ρ 0 c).share w = fullShare := by
  unfold Dat.share; split <;> rfl

/-- From what the launch leaves a device to what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄)
    = ((c : Thread nD τ).loc main_arg1 ↦{fullShare} wAt m c) from unscopedRest0_eq c _]
  unfold G' payToks
  rw [by_kind c fun g => (atPos ER g 0 ∅ 0 : sProp 𝕄)]
  iintro ⟨Hw, Hlev, Hcr, -, ⟨%K, HK⟩, ⟨HaC, HaS, HaR, HaB⟩, HtB, HtS, HtR, HtC⟩
  ihave Hc := (creds (F := F) c) $$ Hcr
  icases Hc with ⟨H1, HN⟩
  imodintro
  unfold start facts tools
  isplitl
  · isplitl [HK Hlev]
    · iexists K
      isplitl [HK]; · iexact HK
      iexact Hlev
    isplitr [Hw]
    · isplitl [H1]; · iexact H1
      isplitl [HN]; · iexact HN
      isplitl [HaC]; · iexact HaC
      isplitl [HaS]; · iexact HaS
      isplitl [HaR]; · iexact HaR
      isplitl [HaB]; · iexact HaB
      isplitl [HtB]; · iexact HtB
      isplitl [HtS]; · iexact HtS
      isplitl [HtR]; · iexact HtR
      iexact HtC
    iexact Hw
  · iempintro

/-- What the launch leaves a device is what its body starts from. -/
theorem body_entry (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φpre m c from rfl, scopedRest0_eq]
  unfold Φpre scratch
  iintro ⟨Hs, -, Hr⟩
  isplitl [Hs]; · iexact Hs
  iexact Hr

/-- What its body ends with is what the end of the launch asks for. -/
theorem body_exit (c : Dev nD) :
    (dats m ρ 0 c).Φ (Fin.last cfg0.N) ⊢ iprop((unscopedSems0 c ∗ ((c : Thread nD τ).loc main_arg1 ↦{fullShare} wAt m c))
      ∗ Pipeline.ownSems0 osem c ∗ Pipeline.scopedRest cfg0.spec c) := by
  rw [show (dats m ρ 0 c).Φ (Fin.last cfg0.N) = Φpost m c from rfl, scopedRest0_eq, unscopedSems_eq]
  unfold Φpost scratch closed0
  iintro ⟨⟨⟨HC, HS, HR, HB⟩, Hw⟩, Hr⟩
  ihave H := (Entails.of_eq ((by_kind c fun g => (semVal g 0 : sProp 𝕄)).symm.trans (by_last c fun g => (semVal g 0 : sProp 𝕄)))) $$ [HC HS HR HB]
  · isplitl [HC]; · iexact HC
    isplitl [HS]; · iexact HS
    isplitl [HR]; · iexact HR
    iexact HB
  icases H with ⟨HB, Ho⟩
  isplitl [HB Hw]
  · isplitl [HB]; · iexact HB
    iexact Hw
  isplitl [Ho]
  · unfold Pipeline.ownSems0; iexact Ho
  iexact Hr

/-- Waiting for the staging copies is allowed at any time. -/
theorem stage_waits (c : Dev nD) : (levAts L lv : sProp 𝕄) ⊢ Pipeline.cellsWaits cfgs (dats m ρ) () 0 c :=
  Pipeline.cellsWaits_intro cfgs (dats m ρ) () 0 c fun w s t =>
    mayWait_of (b := 0) c _ _ (by
      rcases t with ⟨_ | _, ht⟩
      · exact above_O₀ c
      · exact Above.zero 0) (by revert c; fin_cases w <;> fin_cases s <;> decide)

/-! ## The run -/

/-- What an array of the region's windows ends with. -/
def endA (c : Dev nD) (w : Fin cfg0.W) : Buf (Elt F) ((cfg0.win w).arr.view.loc (c : Thread nD τ)) := (dats m ρ 0 c).arrAt w cfg0.N

/-- Every device's two windows' arrays, and its weights. -/
def QC : PUnit × MemSt nD τ sig (Elt F) → Prop := fun r =>
  ∀ c : Dev nD, (∀ w : Fin cfg0.W, r.2.mem ((cfg0.win w).arr.view.loc (c : Thread nD τ)) = endA m ρ c w)
    ∧ r.2.mem ((c : Thread nD τ).loc main_arg1) = wAt m c

set_option maxRecDepth 8000 in
/-- On sixteen devices, at any float values, from any memory with zero counters: every weakly fair execution of the
    program ends, and every final state has the windows' arrays at the computed contents, the weights unchanged, and
    every semaphore counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := block_pos0) (harr := arr_whole0) (hstage := stage_whole0) (hshare := whole_shares m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ ((c : Thread nD τ).loc main_arg1 ↦{fullShare} wAt m c))) (Z := fun _ => iprop(emp))
    (hX := start_intro m ρ) (hin := body_entry m ρ) (hout := body_exit m ρ)
    (QY := fun c s => (∀ sm : SemLoc sig, sm.isScoped .tc = false → s.sem ((c.tc : Thread nD τ), sm) = 0)
      ∧ s.mem ((c : Thread nD τ).loc main_arg1) = wAt m c)
    (hY := fun c s' => by
      iintro ⟨⟨Hu, Hw⟩, -, HSI⟩
      imod (Pipeline.unscopedSems0_read (X := unscopedSems0 c) (c := c) fupd_intro s') $$ [Hu HSI] with ⟨%hu, HSI⟩
      · isplitl [Hu] <;> iassumption
      ihave H := (pointsTo_read_all (Finset.univ : Finset (Fin 1)) (fun _ => (c : Thread nD τ).loc main_arg1) (fun _ => wAt m c) s') $$ [Hw HSI]
      · isplitl [Hw]
        · iapply (Entails.of_eq ((bigSep_univ_eq_bigSepL [(0 : Fin 1)] (by decide) (by decide) _).trans (bigSepL_singleton _ _)).symm)
          iexact Hw
        iexact HSI
      icases H with ⟨%hw, HSI⟩
      imodintro
      isplitr
      · ipureintro; exact ⟨hu, hw 0 (Finset.mem_univ _)⟩
      iexact HSI)
    (hQ := fun _ h hs => ⟨fun c => ⟨fun w => (h c).1 w, (h c).2.2.2⟩, sem_eq_zero hs fun c => (h c).2.2.1⟩)

/-! ## What the arrays end with -/

/-- The argument's array ends as it was. -/
theorem end_x (c : Dev nD) : endA m ρ c (0 : Fin 2) = m ((c : Thread nD τ).loc main_arg0) :=
  (dats (F := F) m ρ 0 c).arrAt_in (0 : Fin 2) rfl _

end Cert.Exchange

end
-- ==== Proof.Arrays.lean ====
/-
What the two windows' arrays hold: the argument's one block is the argument, and the result's array ends with what the
body left staged.
-/
module

public import proofs.«01_k».proof.Proof.Launch

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- A window's one block is its whole array: the argument's, -/
theorem argBlock (c : Dev nD) (f : Buf (Elt F) ((c : Thread nD τ).loc main_arg0)) :
    (win0_0.blk (0 : Fin 1)).view.read (Elt F) f = f :=
  Memref.read_access_unit_zero (Elt F) main_arg0 (funext fun a => by fin_cases a <;> decide)
    (fun a => by fin_cases a <;> decide) f
/-- and the result's. -/
theorem resBlock (c : Dev nD) (f : Buf (Elt F) ((c : Thread nD τ).loc main_v1)) :
    (win0_1.blk (0 : Fin 1)).view.read (Elt F) f = f :=
  Memref.read_access_unit_zero (Elt F) main_v1 (funext fun a => by fin_cases a <;> decide)
    (fun a => by fin_cases a <;> decide) f

/-- So the rows a device computes with are its argument, -/
theorem xAt_eq (c : Dev nD) : xAt m c = m ((c : Thread nD τ).loc main_arg0) := argBlock c _

/-- and its result array ends with the columns its body staged. -/
theorem end_out (c : Dev nD) : endA m ρ c (1 : Fin 2) = outAt m c := by
  have hw : (win0_1.blk (0 : Fin 1)).view.read (Elt F) (endA m ρ c (1 : Fin 2)) = outAt m c := by
    unfold endA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (resBlock c _).symm.trans hw

end Cert.Exchange

end
-- ==== Proof.Frames.lean ====
/-
The programs run to the end, their arguments unchanged and their semaphore counters back at zero.
-/
module

public import proofs.«01_k».proof.Defs
public import proofs.«01_k».proof.Proof.Arrays
public import proofs.«01_k».proof.Proof.Gen.Kernel
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_clip_KernelIdeal
public import proofs.«01_k».proof.Proof.Gen.Pre_within_clip_ReferenceIdeal

@[expose] public section

noncomputable section

namespace Cert.Frames

open Idealize.ShloMosaic Idealize.ShloMosaic.TcCoe Idealize.SL.Sem

section Kernel
open Cert.KernelIdeal Cert.KernelIdeal.Gen Cert.Exchange

variable {F : FTy → Type} [FloatOps F] (m : (ℓ : Loc nD τ sig) → Buf (Elt F) ℓ) (ρ : Dev nD → PrngReg)

/-- At any float values: the result ends as the columns computed, the arguments end as they were, the counters at zero. -/
theorem run_kernel : θ_run defs (onTc (τ := τ) (main (F := F))) ⟨m, fun _ => 0, ρ⟩ (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨((h.1 c).1 (1 : Fin 2)).trans (end_out m ρ c),
    ((h.1 c).1 (0 : Fin 2)).trans (end_x m ρ c), (h.1 c).2⟩, h.2⟩) (run_all m ρ)

end Kernel

/-- The two printings of the kernel call the same body, -/
theorem body_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl
/-- so their definitions are the same. -/
theorem defs_same : Cert.Kernel.defs (F := Bits) = Cert.KernelIdeal.defs (F := Bits) :=
  congrArg (Pipeline.defs (Cert.KernelIdeal.pcfgs (F := Bits))) body_same

/-- The kernel, on machine floats. -/
theorem frame_kernel : Cert.quiescent_Kernel := fun m ρ _ => by
  rw [defs_same]
  exact (θ_run Cert.KernelIdeal.defs _ _).mono (fun _ h => ⟨fun c => (h.1 c).2, h.2⟩) (run_kernel (F := Bits) m ρ)

/-- The kernel, over the extended reals, -/
theorem frame_ideal : Cert.quiescent_KernelIdeal := fun m ρ _ =>
  (θ_run Cert.KernelIdeal.defs _ _).mono (fun _ h => ⟨fun c => (h.1 c).2, h.2⟩) (run_kernel (F := Ideal) m ρ)
/-- and so under the precondition. -/
theorem frame_ideal_within : Cert.quiescent_KernelIdeal_pre_within_clip_KernelIdeal := fun m ρ _ => frame_ideal m ρ trivial

/-- The reference, -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- so under the precondition, -/
theorem frame_reference_within : Cert.quiescent_ReferenceIdeal_pre_within_clip_ReferenceIdeal :=
  fun m ρ _ => frame_reference m ρ trivial
/-- and the reference without the clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

end Cert.Frames

end
-- ==== Proof.Sigmoid.lean ====
/-
On the extended reals: a number times its sigmoid is the number over one plus the exponential of its negation, and the
clip of a number within the clip's bounds is the number.
-/
module

public import Idealize.ShloMosaic.Lib.Pointwise
public import Idealize.ShloMosaic.Lib.ReduceAll

@[expose] public section

noncomputable section

namespace Cert.Sigmoid

open Idealize.ShloMosaic

/-- One plus an exponential is positive. -/
theorem one_add_exp_pos (r : ℝ) : (0 : ℝ) < 1 + Real.exp r := by positivity

/-- One plus an exponential, of a real, is that real sum. -/
theorem one_add_exp (r : ℝ) : (1 : EReal) + Ideal.exp (-(r : EReal)) = ((1 + Real.exp (-r) : ℝ) : EReal) := by
  rw [← EReal.coe_neg, Ideal.exp_coe, ← EReal.coe_one, ← EReal.coe_add]

/-- `y · σ(y) = y / (1 + e^(-y))`, at the infinities too. -/
theorem mul_logistic (y : EReal) : y * Ideal.logistic y = Ideal.div y (1 + Ideal.exp (-y)) := by
  induction y using EReal.rec with
  | bot =>
    rw [Ideal.logistic_bot, mul_zero, EReal.neg_bot, Ideal.exp_top,
      EReal.add_top_of_ne_bot (show (1 : EReal) ≠ ⊥ from EReal.coe_ne_bot 1)]
    simp [Ideal.div]
  | coe r =>
    have hne : ((1 + Real.exp (-r) : ℝ) : EReal) ≠ 0 := by exact_mod_cast (one_add_exp_pos (-r)).ne'
    rw [Ideal.logistic_coe, one_add_exp, Ideal.div, if_neg hne, ← EReal.coe_inv]
  | top =>
    rw [Ideal.logistic_top, EReal.neg_top, Ideal.exp_bot, add_zero, Ideal.div, if_neg one_ne_zero,
      ← EReal.coe_one, ← EReal.coe_inv, inv_one]

/-- The word of 60 is 60, -/
theorem word_60 : Ideal.ofBits .f32 0x42700000#32 = ((60 : ℝ) : EReal) := by
  simp [Ideal.ofBits, Ideal.ieee, -EReal.coe_mul]; norm_num
/-- and that of -60 is -60. -/
theorem word_neg_60 : Ideal.ofBits .f32 0xC2700000#32 = ((-60 : ℝ) : EReal) := by
  simp [Ideal.ofBits, Ideal.ieee, -EReal.coe_mul]; norm_num

/-- Within the bounds the clip does nothing. -/
theorem clip_of_le {a y : EReal} (h : max y (-y) ≤ a) : min a (max (-a) y) = y := by
  have h1 : y ≤ a := (le_max_left _ _).trans h
  have h2 : -a ≤ y := by
    have := EReal.neg_le_neg_iff.mpr ((le_max_right y (-y)).trans h)
    rwa [neg_neg] at this
  rw [max_eq_right h2, min_eq_right h1]

end Cert.Sigmoid

end
-- ==== Proof.Entries.lean ====
/-
The entries of a device's columns of the result, over the extended reals: each is a product's entry times its sigmoid.
-/
module

public import proofs.«01_k».proof.Proof.Arrays
public import proofs.«01_k».proof.Proof.Sigmoid

@[expose] public section

noncomputable section

namespace Cert.Exchange

open Cert.KernelIdeal Cert.KernelIdeal.Gen
open Idealize.ShloMosaic Idealize.ShloMosaic.TcCoe

variable (m : (ℓ : Loc nD τ sig) → Buf (Elt Ideal) ℓ)

/-- Device `d`'s rows of `x`, -/
def xOf (d : Dev nD) : FVec Ideal S512x8192 .f32 := m ((d : Thread nD τ).loc main_arg0)
/-- and its copy of the weights. -/
def wOf (d : Dev nD) : FVec Ideal S8192x4096 .f32 := m ((d : Thread nD τ).loc main_arg1)

/-- Column `l` of device `c`'s columns, among all the columns. -/
def colOf (c : Dev nD) (l : Fin 256) : Fin 4096 :=
  ⟨256 * c.val + l.val, by have h : c.val < 16 := c.isLt; have := l.isLt; omega⟩

/-- Row `r` of device `d`'s rows against column `k` of device `c`'s columns of device `d`'s weights. -/
def dotAt (c d : Dev nD) (r : Fin 512) (l : Fin 256) : EReal :=
  ∑ k : Fin 8192, xOf m d (ix2 r k) * wOf m d (ix2 k (colOf c l))

/-- A block's entry: the sum of products, times its sigmoid. -/
theorem silu_entry (x : FVec Ideal S512x8192 .f32) (w : FVec Ideal S8192x256 .f32) (r : Fin 512) (l : Fin 256) :
    silu x w (ix2 r l) = (∑ k : Fin 8192, x (ix2 r k) * w (ix2 k l)) * Ideal.logistic (∑ k : Fin 8192, x (ix2 r k) * w (ix2 k l)) := by
  pointwise [silu]

/-- Device `c`'s columns of a device's weights, read at an entry. -/
theorem col_entry (d c : Dev nD) (k : Fin 8192) (l : Fin 256) :
    colAt m d c (ix2 k l) = wOf m d (ix2 k (colOf c l)) := by
  show wOf m d _ = _
  refine congrArg _ (funext fun a => ?_)
  match a with
  | ⟨0, _⟩ =>
    refine Fin.ext ?_
    show 0 + 1 * k.val = k.val
    omega
  | ⟨1, _⟩ =>
    refine Fin.ext ?_
    show 256 * c.val + 1 * l.val = 256 * c.val + l.val
    omega

/-- The block of device `d`'s rows and device `c`'s columns, at an entry. -/
theorem full_entry (c d : Dev nD) (r : Fin 512) (l : Fin 256) :
    fullAt m d c (ix2 r l) = Ideal.div (dotAt m c d r l) (1 + Ideal.exp (-(dotAt m c d r l))) := by
  unfold fullAt
  rw [silu_entry, Cert.Sigmoid.mul_logistic]
  have h : (∑ k : Fin 8192, shapeCast (α := Elt Ideal .f32) S512x8192 (xAt m d) shapeCasts_S512x8192_S512x8192 (ix2 r k) * colAt m d c (ix2 k l)) = dotAt m c d r l := by
    refine Finset.sum_congr rfl fun k _ => ?_
    rw [col_entry, xAt_eq]
    exact congrArg (· * wOf m d (ix2 k (colOf c l)))
      (congrFun (shapeCast_self (s := S512x8192) (v := xOf m d) (h := shapeCasts_S512x8192_S512x8192)) (ix2 r k))
  rw [h]

/-- Over the extended reals sending a block rounded and widening it again changes nothing. -/
theorem part_eq (c d : Dev nD) : partAt m c d = fullAt m d c := by
  unfold partAt
  split
  · next h => rw [h]
  · rfl

/-- Device `c`'s columns of the result, at an entry. -/
theorem out_entry (c : Dev nD) (R : Fin 8192) (l : Fin 256) :
    outAt m c (ix2 R l) = Ideal.div (dotAt m c (partOf (ix2 R l)) ⟨R.val % 512, Nat.mod_lt _ (by decide)⟩ l)
      (1 + Ideal.exp (-(dotAt m c (partOf (ix2 R l)) ⟨R.val % 512, Nat.mod_lt _ (by decide)⟩ l))) := by
  unfold outAt
  rw [part_eq, show inPart (ix2 R l) = ix2 ⟨R.val % 512, Nat.mod_lt _ (by decide)⟩ l from ?_, full_entry]
  funext a
  match a with
  | ⟨0, _⟩ => rfl
  | ⟨1, _⟩ => rfl

end Cert.Exchange

end
-- ==== Proof.Expected.lean ====
/-
The entries of the two references' results, over the extended reals.
-/
module

public import proofs.«01_k».proof.Proof.Sigmoid
public import proofs.«01_k».proof.Proof.Gen.ReferenceIdeal
public import proofs.«01_k».proof.Proof.Gen.UnclippedIdeal

@[expose] public section

noncomputable section

namespace Cert.Expected

open Idealize.ShloMosaic Idealize.ShloMosaic.TcCoe

variable (x : FVec Ideal ⟨2, ![8192, 8192]⟩ .f32) (w : FVec Ideal ⟨2, ![8192, 4096]⟩ .f32)

/-- The product's entry. -/
def dot (R : Fin 8192) (C : Fin 4096) : EReal := ∑ k : Fin 8192, x (ix2 R k) * w (ix2 k C)

section Clipped
open Cert.ReferenceIdeal Cert.ReferenceIdeal.Gen

/-- What the reference computes of the whole arrays. -/
def clipped : FVec Ideal ⟨2, ![8192, 4096]⟩ .f32 :=
  Host.divf (Host.dotGeneral dot_S8192x8192_S8192x4096_S8192x4096_1_0_0_1_n_n none x w)
    (addf (broadcastInDim S8192x4096 ![] bcast_S_S8192x4096 (constant S_ .f32 0x3F800000#32))
      (Host.exp (Host.negf
        (minimumf (broadcastInDim S8192x4096 ![] bcast_S_S8192x4096 (id (constant S_ .f32 0x42700000#32)))
          (maximumf (broadcastInDim S8192x4096 ![] bcast_S_S8192x4096 (id (constant S_ .f32 0xC2700000#32)))
            (Host.dotGeneral dot_S8192x8192_S8192x4096_S8192x4096_1_0_0_1_n_n none x w))))))

/-- Its entry: the product's over one plus the exponential of the clipped product's negation. -/
theorem clipped_entry (R : Fin 8192) (C : Fin 4096) :
    clipped x w (ix2 R C)
      = Ideal.div (dot x w R C) (1 + Ideal.exp (-(min ((60 : ℝ) : EReal) (max ((-60 : ℝ) : EReal) (dot x w R C))))) := by
  rw [← Cert.Sigmoid.word_60, ← Cert.Sigmoid.word_neg_60]
  unfold dot
  pointwise [clipped, id]

end Clipped

section Unclipped
open Cert.UnclippedIdeal Cert.UnclippedIdeal.Gen

/-- What the reference without the clip computes of the whole arrays. -/
def unclipped : FVec Ideal ⟨2, ![8192, 4096]⟩ .f32 :=
  Host.divf (Host.dotGeneral dot_S8192x8192_S8192x4096_S8192x4096_1_0_0_1_n_n none x w)
    (addf (broadcastInDim S8192x4096 ![] bcast_S_S8192x4096 (constant S_ .f32 0x3F800000#32))
      (Host.exp (Host.negf (Host.dotGeneral dot_S8192x8192_S8192x4096_S8192x4096_1_0_0_1_n_n none x w))))

/-- Its entry: the product's over one plus the exponential of its negation. -/
theorem unclipped_entry (R : Fin 8192) (C : Fin 4096) :
    unclipped x w (ix2 R C) = Ideal.div (dot x w R C) (1 + Ideal.exp (-(dot x w R C))) := by
  unfold dot
  pointwise [unclipped]

end Unclipped

/-- Where the product is within the clip's bounds, the two agree. -/
theorem clipped_eq (R : Fin 8192) (C : Fin 4096) (h : max (dot x w R C) (-(dot x w R C)) ≤ ((60 : ℝ) : EReal)) :
    clipped x w (ix2 R C) = unclipped x w (ix2 R C) := by
  rw [clipped_entry, unclipped_entry, EReal.coe_neg, Cert.Sigmoid.clip_of_le h]

end Cert.Expected

end
-- ==== Proof.Meet.lean ====
/-
Each device's columns of the result are its block of the reference's, over the extended reals.
-/
module

public import proofs.«01_k».proof.Proof.Entries
public import proofs.«01_k».proof.Proof.Expected
public import proofs.«01_k».proof.Proof.Gen.Pre_within_clip_KernelIdeal
public import Idealize.ShloMosaic.Lib.Layout

@[expose] public section

noncomputable section

namespace Cert.Meet

open Cert.KernelIdeal Cert.KernelIdeal.Gen Cert.Exchange
open Idealize.ShloMosaic Idealize.ShloMosaic.TcCoe

/-- Each device holds its rows of `X` and a copy of `W`. -/
def Shared (m : (ℓ : Loc nD τ sig) → Buf (Elt Ideal) ℓ) (X : FVec Ideal ⟨2, ![8192, 8192]⟩ .f32)
    (W : FVec Ideal ⟨2, ![8192, 4096]⟩ .f32) : Prop :=
  ∀ c : Dev nD, xOf m c = Layout.block ⟨2, ![512, 8192]⟩ ⟨2, ![8192, 8192]⟩ 0 16 c X ∧ wOf m c = W

variable {m : (ℓ : Loc nD τ sig) → Buf (Elt Ideal) ℓ}
variable {X : FVec Ideal ⟨2, ![8192, 8192]⟩ .f32} {W : FVec Ideal ⟨2, ![8192, 4096]⟩ .f32}

/-- Row `r` of device `d`'s rows, among all the rows. -/
def rowOf (d : Fin 16) (r : Fin 512) : Fin 8192 :=
  ⟨512 * d.val + r.val, by have := d.isLt; have := r.isLt; omega⟩

/-- A device's product entry is the whole product's. -/
theorem dot_shared (h : Shared m X W) (c d : Dev nD) (r : Fin 512) (l : Fin 256) :
    dotAt m c d r l = Cert.Expected.dot X W (rowOf d r) (colOf c l) := by
  unfold dotAt Cert.Expected.dot
  refine Finset.sum_congr rfl fun k _ => ?_
  rw [(h d).1, (h d).2, Layout.block_apply]
  refine congrArg (· * W (ix2 k (colOf c l))) (congrArg X (funext fun a => ?_))
  match a with
  | ⟨0, _⟩ =>
    refine Fin.ext ?_
    show d.val * 512 + r.val = 512 * d.val + r.val
    omega
  | ⟨1, _⟩ => rfl

/-- A row's device and its place among that device's rows give the row again. -/
theorem row_back (R : Fin 8192) (l : Fin 256) :
    rowOf (partOf (ix2 R l)) ⟨R.val % 512, Nat.mod_lt _ (by decide)⟩ = R :=
  Fin.ext (Nat.div_add_mod R.val 512)

/-- Where block `c`'s entry lies among all the columns. -/
theorem block_entry {v : FVec Ideal ⟨2, ![8192, 4096]⟩ .f32} (c : Dev nD) (R : Fin 8192) (l : Fin 256) :
    Layout.block ⟨2, ![8192, 256]⟩ ⟨2, ![8192, 4096]⟩ 1 16 c v (by decide) (ix2 R l) = v (ix2 R (colOf c l)) := by
  rw [Layout.block_apply]
  refine congrArg v (funext fun a => ?_)
  match a with
  | ⟨0, _⟩ => rfl
  | ⟨1, _⟩ =>
    refine Fin.ext ?_
    show c.val * 256 + l.val = 256 * c.val + l.val
    omega

/-- Device `c`'s columns are block `c` of what the reference without the clip computes. -/
theorem out_unclipped (h : Shared m X W) (c : Dev nD) :
    outAt m c = Layout.block ⟨2, ![8192, 256]⟩ ⟨2, ![8192, 4096]⟩ 1 16 c (Cert.Expected.unclipped X W) := by
  funext i
  obtain ⟨R, l, rfl⟩ : ∃ (R : Fin 8192) (l : Fin 256), i = ix2 R l := ⟨i 0, i 1, eq_ix2 i⟩
  rw [out_entry, dot_shared h, row_back, block_entry, Cert.Expected.unclipped_entry]

/-! ## The precondition -/

/-- The precondition, of one device's rows and the weights, bounds every entry of their product. -/
theorem within_entry (x : FVec Ideal ⟨2, ![512, 8192]⟩ .f32) (w : FVec Ideal ⟨2, ![8192, 4096]⟩ .f32)
    (h : Cert.Pre_within_clip_KernelIdeal.fn (F := Ideal) x w = fun _ => 1#1) (r : Fin 512) (C : Fin 4096) :
    max (∑ k : Fin 8192, x (ix2 r k) * w (ix2 k C)) (-(∑ k : Fin 8192, x (ix2 r k) * w (ix2 k C))) ≤ ((60 : ℝ) : EReal) := by
  have : Subsingleton Cert.Pre_within_clip_KernelIdeal.S_.Idx := ⟨fun a b => funext fun k => k.elim0⟩
  have h1 := Host.reduce_andi_all _ _ _ _ ix0 (congrFun h ix0) (ix2 r C)
  rw [← Cert.Sigmoid.word_60]
  revert h1
  pointwise []
  intro h1
  change BitVec.ofBool (decide (max (∑ k : Fin 8192, x (ix2 r k) * w (ix2 k C)) (-(∑ k : Fin 8192, x (ix2 r k) * w (ix2 k C))) ≤ _)) = 1#1 at h1
  by_contra hn
  rw [decide_eq_false hn] at h1
  exact absurd h1 (by decide)

/-- So it bounds every entry of the whole product, -/
theorem within_shared (h : Shared m X W)
    (hp : ∀ c : Dev nD, Cert.Pre_within_clip_KernelIdeal.fn (F := Ideal) (xOf m c) (wOf m c) = fun _ => 1#1)
    (R : Fin 8192) (c : Dev nD) (l : Fin 256) :
    max (Cert.Expected.dot X W R (colOf c l)) (-(Cert.Expected.dot X W R (colOf c l))) ≤ ((60 : ℝ) : EReal) := by
  have e := within_entry _ _ (hp (partOf (ix2 R l))) ⟨R.val % 512, Nat.mod_lt _ (by decide)⟩ (colOf c l)
  have d := dot_shared h c (partOf (ix2 R l)) ⟨R.val % 512, Nat.mod_lt _ (by decide)⟩ l
  rw [row_back] at d
  rw [← d]
  exact e

/-- and device `c`'s columns are block `c` of what the reference with the clip computes. -/
theorem out_clipped (h : Shared m X W)
    (hp : ∀ c : Dev nD, Cert.Pre_within_clip_KernelIdeal.fn (F := Ideal) (xOf m c) (wOf m c) = fun _ => 1#1) (c : Dev nD) :
    outAt m c = Layout.block ⟨2, ![8192, 256]⟩ ⟨2, ![8192, 4096]⟩ 1 16 c (Cert.Expected.clipped X W) := by
  rw [out_unclipped h]
  funext i
  obtain ⟨R, l, rfl⟩ : ∃ (R : Fin 8192) (l : Fin 256), i = ix2 R l := ⟨i 0, i 1, eq_ix2 i⟩
  rw [block_entry, block_entry, Cert.Expected.clipped_eq _ _ _ _ (within_shared h hp R c l)]

end Cert.Meet

end
-- ==== Proof.lean ====
/-
The claims, assembled.
-/
module

public import proofs.«01_k».proof.Defs
public import proofs.«01_k».proof.Proof.Frames
public import proofs.«01_k».proof.Proof.Meet
public import proofs.«01_k».proof.Proof.Gen.Kernel
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_within_clip_KernelIdeal
public import proofs.«01_k».proof.Proof.Gen.Pre_within_clip_ReferenceIdeal
public import Idealize.ShloMosaic.Adequacy
public import Idealize.ShloMosaic.Init

@[expose] public section

noncomputable section

namespace Cert.Proof

open Idealize.ShloMosaic Idealize.SL.Sem

/-- Where no entry of the product leaves the clip's bounds, the kernel's result is the reference's. -/
theorem value_clipped : Cert.algebraic_KernelIdeal_ReferenceIdeal_pre_within_clip_KernelIdeal := by
  intro m ρ m' ρ' hp hm
  refine ⟨Cert.Expected.clipped (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
      ⟨(h.1 c).1.trans (Cert.Meet.out_clipped hm hp c), (h.1 c).2⟩) (Cert.Frames.run_kernel m ρ)
  · exact (θ_run Cert.ReferenceIdeal.defs _ _).mono (fun _ h => h 0) (Cert.ReferenceIdeal.Value.run m' ρ')

/-- On all inputs the kernel's result is that of the reference without the clip. -/
theorem value_unclipped : Cert.algebraic_KernelIdeal_UnclippedIdeal := by
  intro m ρ m' ρ' _ hm
  refine ⟨Cert.Expected.unclipped (m' (((0 : Dev Cert.UnclippedIdeal.nD).tc : Thread Cert.UnclippedIdeal.nD Cert.UnclippedIdeal.τ).loc Cert.UnclippedIdeal.main_arg0))
    (m' (((0 : Dev Cert.UnclippedIdeal.nD).tc : Thread Cert.UnclippedIdeal.nD Cert.UnclippedIdeal.τ).loc Cert.UnclippedIdeal.main_arg1)), ?_, ?_⟩
  · exact (θ_run Cert.KernelIdeal.defs _ _).mono (fun _ h c =>
      ⟨(h.1 c).1.trans (Cert.Meet.out_unclipped hm c), (h.1 c).2⟩) (Cert.Frames.run_kernel m ρ)
  · exact (θ_run Cert.UnclippedIdeal.defs _ _).mono (fun _ h => h 0) (Cert.UnclippedIdeal.Value.run m' ρ')

/-- Every claim. -/
theorem claim : Cert.Claim :=
  ⟨Cert.Kernel.Gen.facts, Cert.KernelIdeal.Gen.facts, Cert.ReferenceIdeal.Gen.facts, Cert.UnclippedIdeal.Gen.facts,
    Cert.Pre_within_clip_KernelIdeal.Gen.facts, Cert.Pre_within_clip_ReferenceIdeal.Gen.facts,
    Cert.Frames.frame_kernel, Cert.Frames.frame_ideal, Cert.Frames.frame_ideal_within, Cert.Frames.frame_reference,
    Cert.Frames.frame_reference_within, Cert.Frames.frame_unclipped, trivial, value_clipped, value_unclipped⟩

end Cert.Proof

end
